-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![65536, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![65536, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S16x1024 : Shape := ⟨2, ![16, 1024]⟩
abbrev S15 : Shape := ⟨1, ![15]⟩
abbrev S1024 : Shape := ⟨1, ![1024]⟩
abbrev S1x1024 : Shape := ⟨2, ![1, 1024]⟩
abbrev S_ : Shape := ⟨0, ![]⟩
abbrev S1 : Shape := ⟨1, ![1]⟩
abbrev S128x128 : Shape := ⟨2, ![128, 128]⟩
abbrev S128x1024 : Shape := ⟨2, ![128, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S16x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v7 : Index := Scalar.indexCast v2
  let c0_1 : Index := 0#32
  ![v7.toNat, 0]
def k0_dev1 : Nat :=
  let c0_i32_4 : BitVec 32 := 0#32
  let c0_i32 : BitVec 32 := 0#32
  let c1_i32_3 : BitVec 32 := 1#32
  let v12 : BitVec 32 := Scalar.muli c0_i32 c1_i32_3
  let v13 : BitVec 32 := Scalar.addi c0_i32_4 v12
  v13.toNat
def k0_dev2 : Nat :=
  let c0_i32_8 : BitVec 32 := 0#32
  let c1_i32_6 : BitVec 32 := 1#32
  let c1_i32_7 : BitVec 32 := 1#32
  let v14 : BitVec 32 := Scalar.muli c1_i32_6 c1_i32_7
  let v15 : BitVec 32 := Scalar.addi c0_i32_8 v14
  v15.toNat
def k0_dev3 : Nat :=
  let c0_i32_11 : BitVec 32 := 0#32
  let c2_i32 : BitVec 32 := 2#32
  let c1_i32_10 : BitVec 32 := 1#32
  let v16 : BitVec 32 := Scalar.muli c2_i32 c1_i32_10
  let v17 : BitVec 32 := Scalar.addi c0_i32_11 v16
  v17.toNat
def k0_dev4 : Nat :=
  let c0_i32_14 : BitVec 32 := 0#32
  let c3_i32 : BitVec 32 := 3#32
  let c1_i32_13 : BitVec 32 := 1#32
  let v18 : BitVec 32 := Scalar.muli c3_i32 c1_i32_13
  let v19 : BitVec 32 := Scalar.addi c0_i32_14 v18
  v19.toNat
def k0_dev5 : Nat :=
  let c0_i32_17 : BitVec 32 := 0#32
  let c4_i32 : BitVec 32 := 4#32
  let c1_i32_16 : BitVec 32 := 1#32
  let v20 : BitVec 32 := Scalar.muli c4_i32 c1_i32_16
  let v21 : BitVec 32 := Scalar.addi c0_i32_17 v20
  v21.toNat
def k0_dev6 : Nat :=
  let c0_i32_20 : BitVec 32 := 0#32
  let c5_i32 : BitVec 32 := 5#32
  let c1_i32_19 : BitVec 32 := 1#32
  let v22 : BitVec 32 := Scalar.muli c5_i32 c1_i32_19
  let v23 : BitVec 32 := Scalar.addi c0_i32_20 v22
  v23.toNat
def k0_dev7 : Nat :=
  let c0_i32_23 : BitVec 32 := 0#32
  let c6_i32 : BitVec 32 := 6#32
  let c1_i32_22 : BitVec 32 := 1#32
  let v24 : BitVec 32 := Scalar.muli c6_i32 c1_i32_22
  let v25 : BitVec 32 := Scalar.addi c0_i32_23 v24
  v25.toNat
def k0_dev8 : Nat :=
  let c0_i32_26 : BitVec 32 := 0#32
  let c7_i32 : BitVec 32 := 7#32
  let c1_i32_25 : BitVec 32 := 1#32
  let v26 : BitVec 32 := Scalar.muli c7_i32 c1_i32_25
  let v27 : BitVec 32 := Scalar.addi c0_i32_26 v26
  v27.toNat
def k0_dev9 : Nat :=
  let c0_i32_29 : BitVec 32 := 0#32
  let c8_i32 : BitVec 32 := 8#32
  let c1_i32_28 : BitVec 32 := 1#32
  let v28 : BitVec 32 := Scalar.muli c8_i32 c1_i32_28
  let v29 : BitVec 32 := Scalar.addi c0_i32_29 v28
  v29.toNat
def k0_dev10 : Nat :=
  let c0_i32_32 : BitVec 32 := 0#32
  let c9_i32 : BitVec 32 := 9#32
  let c1_i32_31 : BitVec 32 := 1#32
  let v30 : BitVec 32 := Scalar.muli c9_i32 c1_i32_31
  let v31 : BitVec 32 := Scalar.addi c0_i32_32 v30
  v31.toNat
def k0_dev11 : Nat :=
  let c0_i32_35 : BitVec 32 := 0#32
  let c10_i32 : BitVec 32 := 10#32
  let c1_i32_34 : BitVec 32 := 1#32
  let v32 : BitVec 32 := Scalar.muli c10_i32 c1_i32_34
  let v33 : BitVec 32 := Scalar.addi c0_i32_35 v32
  v33.toNat
def k0_dev12 : Nat :=
  let c0_i32_38 : BitVec 32 := 0#32
  let c11_i32 : BitVec 32 := 11#32
  let c1_i32_37 : BitVec 32 := 1#32
  let v34 : BitVec 32 := Scalar.muli c11_i32 c1_i32_37
  let v35 : BitVec 32 := Scalar.addi c0_i32_38 v34
  v35.toNat
def k0_dev13 : Nat :=
  let c0_i32_41 : BitVec 32 := 0#32
  let c12_i32 : BitVec 32 := 12#32
  let c1_i32_40 : BitVec 32 := 1#32
  let v36 : BitVec 32 := Scalar.muli c12_i32 c1_i32_40
  let v37 : BitVec 32 := Scalar.addi c0_i32_41 v36
  v37.toNat
def k0_dev14 : Nat :=
  let c0_i32_44 : BitVec 32 := 0#32
  let c13_i32 : BitVec 32 := 13#32
  let c1_i32_43 : BitVec 32 := 1#32
  let v38 : BitVec 32 := Scalar.muli c13_i32 c1_i32_43
  let v39 : BitVec 32 := Scalar.addi c0_i32_44 v38
  v39.toNat
def k0_dev15 : Nat :=
  let c0_i32_47 : BitVec 32 := 0#32
  let c14_i32 : BitVec 32 := 14#32
  let c1_i32_46 : BitVec 32 := 1#32
  let v40 : BitVec 32 := Scalar.muli c14_i32 c1_i32_46
  let v41 : BitVec 32 := Scalar.addi c0_i32_47 v40
  v41.toNat
def k0_dev16 : Nat :=
  let c0_i32_50 : BitVec 32 := 0#32
  let c15_i32 : BitVec 32 := 15#32
  let c1_i32_49 : BitVec 32 := 1#32
  let v42 : BitVec 32 := Scalar.muli c15_i32 c1_i32_49
  let v43 : BitVec 32 := Scalar.addi c0_i32_50 v42
  v43.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_58 : BitVec 32 := 0#32
  ![v2.toNat, 0]
def k0_dev17 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_52 : BitVec 32 := 1#32
  let v44 : BitVec 32 := Scalar.addi v2 c1_i32_52
  let c16_i32_53 : BitVec 32 := 16#32
  let v45 : BitVec 32 := Scalar.remsi v44 c16_i32_53
  let c1_i32_56 : BitVec 32 := 1#32
  let v46 : BitVec 32 := Scalar.muli v45 c1_i32_56
  let v47 : BitVec 32 := Scalar.addi c0_i32_57 v46
  v47.toNat
def k0_dev18 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_60 : BitVec 32 := 2#32
  let v54 : BitVec 32 := Scalar.addi v2 c2_i32_60
  let c16_i32_61 : BitVec 32 := 16#32
  let v55 : BitVec 32 := Scalar.remsi v54 c16_i32_61
  let c1_i32_64 : BitVec 32 := 1#32
  let v56 : BitVec 32 := Scalar.muli v55 c1_i32_64
  let v57 : BitVec 32 := Scalar.addi c0_i32_65 v56
  v57.toNat
def k0_dev19 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_68 : BitVec 32 := 3#32
  let v64 : BitVec 32 := Scalar.addi v2 c3_i32_68
  let c16_i32_69 : BitVec 32 := 16#32
  let v65 : BitVec 32 := Scalar.remsi v64 c16_i32_69
  let c1_i32_72 : BitVec 32 := 1#32
  let v66 : BitVec 32 := Scalar.muli v65 c1_i32_72
  let v67 : BitVec 32 := Scalar.addi c0_i32_73 v66
  v67.toNat
def k0_dev20 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_76 : BitVec 32 := 4#32
  let v74 : BitVec 32 := Scalar.addi v2 c4_i32_76
  let c16_i32_77 : BitVec 32 := 16#32
  let v75 : BitVec 32 := Scalar.remsi v74 c16_i32_77
  let c1_i32_80 : BitVec 32 := 1#32
  let v76 : BitVec 32 := Scalar.muli v75 c1_i32_80
  let v77 : BitVec 32 := Scalar.addi c0_i32_81 v76
  v77.toNat
def k0_dev21 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_84 : BitVec 32 := 5#32
  let v84 : BitVec 32 := Scalar.addi v2 c5_i32_84
  let c16_i32_85 : BitVec 32 := 16#32
  let v85 : BitVec 32 := Scalar.remsi v84 c16_i32_85
  let c1_i32_88 : BitVec 32 := 1#32
  let v86 : BitVec 32 := Scalar.muli v85 c1_i32_88
  let v87 : BitVec 32 := Scalar.addi c0_i32_89 v86
  v87.toNat
def k0_dev22 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_92 : BitVec 32 := 6#32
  let v94 : BitVec 32 := Scalar.addi v2 c6_i32_92
  let c16_i32_93 : BitVec 32 := 16#32
  let v95 : BitVec 32 := Scalar.remsi v94 c16_i32_93
  let c1_i32_96 : BitVec 32 := 1#32
  let v96 : BitVec 32 := Scalar.muli v95 c1_i32_96
  let v97 : BitVec 32 := Scalar.addi c0_i32_97 v96
  v97.toNat
def k0_dev23 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_100 : BitVec 32 := 7#32
  let v104 : BitVec 32 := Scalar.addi v2 c7_i32_100
  let c16_i32_101 : BitVec 32 := 16#32
  let v105 : BitVec 32 := Scalar.remsi v104 c16_i32_101
  let c1_i32_104 : BitVec 32 := 1#32
  let v106 : BitVec 32 := Scalar.muli v105 c1_i32_104
  let v107 : BitVec 32 := Scalar.addi c0_i32_105 v106
  v107.toNat
def k0_dev24 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_108 : BitVec 32 := 8#32
  let v114 : BitVec 32 := Scalar.addi v2 c8_i32_108
  let c16_i32_109 : BitVec 32 := 16#32
  let v115 : BitVec 32 := Scalar.remsi v114 c16_i32_109
  let c1_i32_112 : BitVec 32 := 1#32
  let v116 : BitVec 32 := Scalar.muli v115 c1_i32_112
  let v117 : BitVec 32 := Scalar.addi c0_i32_113 v116
  v117.toNat
def k0_dev25 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_116 : BitVec 32 := 9#32
  let v124 : BitVec 32 := Scalar.addi v2 c9_i32_116
  let c16_i32_117 : BitVec 32 := 16#32
  let v125 : BitVec 32 := Scalar.remsi v124 c16_i32_117
  let c1_i32_120 : BitVec 32 := 1#32
  let v126 : BitVec 32 := Scalar.muli v125 c1_i32_120
  let v127 : BitVec 32 := Scalar.addi c0_i32_121 v126
  v127.toNat
def k0_dev26 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_124 : BitVec 32 := 10#32
  let v134 : BitVec 32 := Scalar.addi v2 c10_i32_124
  let c16_i32_125 : BitVec 32 := 16#32
  let v135 : BitVec 32 := Scalar.remsi v134 c16_i32_125
  let c1_i32_128 : BitVec 32 := 1#32
  let v136 : BitVec 32 := Scalar.muli v135 c1_i32_128
  let v137 : BitVec 32 := Scalar.addi c0_i32_129 v136
  v137.toNat
def k0_dev27 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_132 : BitVec 32 := 11#32
  let v144 : BitVec 32 := Scalar.addi v2 c11_i32_132
  let c16_i32_133 : BitVec 32 := 16#32
  let v145 : BitVec 32 := Scalar.remsi v144 c16_i32_133
  let c1_i32_136 : BitVec 32 := 1#32
  let v146 : BitVec 32 := Scalar.muli v145 c1_i32_136
  let v147 : BitVec 32 := Scalar.addi c0_i32_137 v146
  v147.toNat
def k0_dev28 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_140 : BitVec 32 := 12#32
  let v154 : BitVec 32 := Scalar.addi v2 c12_i32_140
  let c16_i32_141 : BitVec 32 := 16#32
  let v155 : BitVec 32 := Scalar.remsi v154 c16_i32_141
  let c1_i32_144 : BitVec 32 := 1#32
  let v156 : BitVec 32 := Scalar.muli v155 c1_i32_144
  let v157 : BitVec 32 := Scalar.addi c0_i32_145 v156
  v157.toNat
def k0_dev29 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_148 : BitVec 32 := 13#32
  let v164 : BitVec 32 := Scalar.addi v2 c13_i32_148
  let c16_i32_149 : BitVec 32 := 16#32
  let v165 : BitVec 32 := Scalar.remsi v164 c16_i32_149
  let c1_i32_152 : BitVec 32 := 1#32
  let v166 : BitVec 32 := Scalar.muli v165 c1_i32_152
  let v167 : BitVec 32 := Scalar.addi c0_i32_153 v166
  v167.toNat
def k0_dev30 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_156 : BitVec 32 := 14#32
  let v174 : BitVec 32 := Scalar.addi v2 c14_i32_156
  let c16_i32_157 : BitVec 32 := 16#32
  let v175 : BitVec 32 := Scalar.remsi v174 c16_i32_157
  let c1_i32_160 : BitVec 32 := 1#32
  let v176 : BitVec 32 := Scalar.muli v175 c1_i32_160
  let v177 : BitVec 32 := Scalar.addi c0_i32_161 v176
  v177.toNat
def k0_dev31 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_164 : BitVec 32 := 15#32
  let v184 : BitVec 32 := Scalar.addi v2 c15_i32_164
  let c16_i32_165 : BitVec 32 := 16#32
  let v185 : BitVec 32 := Scalar.remsi v184 c16_i32_165
  let c1_i32_168 : BitVec 32 := 1#32
  let v186 : BitVec 32 := Scalar.muli v185 c1_i32_168
  let v187 : BitVec 32 := Scalar.addi c0_i32_169 v186
  v187.toNat
def k0_off3 (d0 : Dev nD) (c1_i32_302 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v487 : BitVec 32 := Scalar.subi v2 c1_i32_302
  let c16_i32_303 : BitVec 32 := 16#32
  let v488 : BitVec 32 := Scalar.addi v487 c16_i32_303
  let c16_i32_304 : BitVec 32 := 16#32
  let v489 : BitVec 32 := Scalar.remsi v488 c16_i32_304
  let c0_i32_309 : BitVec 32 := 0#32
  ![v489.toNat, 0]
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S65536x1024 : Shape := ⟨2, ![65536, 1024]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S_, .f32⟩
  | .hbm, ⟨2, _⟩ => ⟨S_, .f32⟩
  | .hbm, ⟨3, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.KernelIdealRun.Common.lean ====
/-
  The distributed prefix sum, its protocol.

  Every device `c` writes the column sums of its own block into row `c` of its totals buffer, tells every device
  (itself included) on the barrier semaphore that it has arrived, waits for sixteen such signals, and then sends its
  row to the fifteen other devices, the `k`-th transfer (`k < 15`) to `tgt c k = (c + k + 1) mod 16`. The transfer
  completes on the `k`-th send semaphore of `c` and on the `k`-th receive semaphore of `tgt c k`. While the transfers
  run the device computes the prefix sums inside its block; it then waits for its fifteen receives and fifteen sends
  and adds the totals of the devices before it.

  The protocol, in the rounds library (one round, round 0):
  * barrier cell of `c`: sixteen duties of one unit, one per device `d`, paid by `d`; the payload is row `c` of `d`'s
    totals buffer (nothing when `d = c`), which is what `c` needs to write into it;
  * receive cell `k` of `c`: one duty, paid by the transfer from `src c k`; the payload is row `src c k` of `c`'s totals
    buffer, holding that device's column sums;
  * send cell `k` of `c`: one duty, paid by `c`'s own transfer; the payload is the share of row `c` lent to it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

/-! ## The resource algebra: the pipeline library's copy (duties `Unit`) and the protocol's (duties named by devices) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Lists of assertions, peeled at the head -/

/-- The assertions `Φ a` for the `a` of a list, conjoined. -/
def sepL {α : Type} (Φ : α → sProp 𝕄) : List α → sProp 𝕄
  | [] => iprop(emp)
  | a :: l => iprop(Φ a ∗ sepL Φ l)

omit [FloatOps F] in
theorem sepL_eq {α : Type} [DecidableEq α] (Φ : α → sProp 𝕄) : ∀ l : List α, l.Nodup → bigSep l.toFinset Φ = sepL Φ l
  | [], _ => by rw [List.toFinset_nil, bigSep_empty]; rfl
  | a :: l, h => by
    rw [List.toFinset_cons, bigSep_insert (by rw [List.mem_toFinset]; exact (List.nodup_cons.mp h).1), sepL_eq Φ l (List.nodup_cons.mp h).2]
    rfl

omit [FloatOps F] in
theorem sepL_univ {α : Type} [Fintype α] [DecidableEq α] (Φ : α → sProp 𝕄) (l : List α) (h : Finset.univ = l.toFinset) (hl : l.Nodup) :
    bigSep Finset.univ Φ = sepL Φ l := by rw [h, sepL_eq Φ l hl]

/-- All sixteen devices, and all fifteen transfers, in program order. -/
abbrev allDev : List (Dev nD) := [0, 1, 2, 3, 4, 5, 6, 7, 8, 9, 10, 11, 12, 13, 14, 15]
abbrev allK : List (Fin 15) := [0, 1, 2, 3, 4, 5, 6, 7, 8, 9, 10, 11, 12, 13, 14]
theorem allDev_univ : (Finset.univ : Finset (Dev nD)) = allDev.toFinset := by decide
theorem allDev_nodup : allDev.Nodup := by decide
theorem allK_univ : (Finset.univ : Finset (Fin 15)) = allK.toFinset := by decide
theorem allK_nodup : allK.Nodup := by decide

/-! ## Who sends to whom -/

set_option backward.proofsInPublic true in
/-- The device the `k`-th transfer of `c` goes to, -/
def tgt (c : Dev nD) (k : Fin 15) : Dev nD := ⟨(c.val + (k.val + 1)) % 16, Nat.mod_lt _ (by decide)⟩
set_option backward.proofsInPublic true in
/-- and the device whose `k`-th transfer comes to `c`. -/
def src (c : Dev nD) (k : Fin 15) : Dev nD := ⟨((c.val + 15) - k.val) % 16, Nat.mod_lt _ (by decide)⟩

theorem src_tgt (c : Dev nD) (k : Fin 15) : src (tgt c k) k = c := by
  apply Fin.ext; show ((c.val + (k.val + 1)) % 16 + 15 - k.val) % 16 = c.val
  have := c.isLt; have : nD = 16 := rfl; omega
theorem tgt_src (c : Dev nD) (k : Fin 15) : tgt (src c k) k = c := by
  apply Fin.ext; show ((c.val + 15 - k.val) % 16 + (k.val + 1)) % 16 = c.val
  have := c.isLt; have : nD = 16 := rfl; omega
theorem tgt_ne (c : Dev nD) (k : Fin 15) : tgt c k ≠ c := fun h => by
  have h' : (c.val + (k.val + 1)) % 16 = c.val := congrArg Fin.val h
  have := c.isLt; have : nD = 16 := rfl; omega
theorem src_ne (c : Dev nD) (k : Fin 15) : src c k ≠ c := fun h => by
  have h' : ((c.val + 15) - k.val) % 16 = c.val := congrArg Fin.val h
  have := c.isLt; have : nD = 16 := rfl; omega
theorem tgt_inj (c : Dev nD) : Function.Injective (tgt c) := fun k k' h => by
  have h' : (c.val + (k.val + 1)) % 16 = (c.val + (k'.val + 1)) % 16 := congrArg Fin.val h
  apply Fin.ext; have := c.isLt; have : nD = 16 := rfl; omega
theorem src_inj (c : Dev nD) : Function.Injective (src c) := fun k k' h => by
  have h' : ((c.val + 15) - k.val) % 16 = ((c.val + 15) - k'.val) % 16 := congrArg Fin.val h
  apply Fin.ext; have := c.isLt; have : nD = 16 := rfl; omega

/-- Rotation by one transfer's distance. -/
def rot (k : Fin 15) : Dev nD ≃ Dev nD := ⟨(tgt · k), (src · k), (src_tgt · k), (tgt_src · k)⟩

/-- The other devices are the targets, and they are the sources. -/
theorem others_tgt : ∀ c : Dev nD, (Finset.univ.erase c : Finset (Dev nD)) = Finset.univ.map ⟨tgt c, tgt_inj c⟩ := by decide
theorem others_src : ∀ c : Dev nD, (Finset.univ.erase c : Finset (Dev nD)) = Finset.univ.map ⟨src c, src_inj c⟩ := by decide

/-! ## The memrefs and cells -/

abbrev xM : Memref sig .tc .vmem S4096x1024 .f32 := Memref.whole cc0_stg0_0
abbrev oM : Memref sig .tc .vmem S4096x1024 .f32 := Memref.whole cc0_stg1_0
abbrev tM : Memref sig .tc .vmem S16x1024 .f32 := Memref.whole cc0_scratch0

theorem row_inb (r : Dev nD) : ∀ a, (![r.val, 0] : Fin 2 → ℕ) a + S1x1024.size a ≤ S16x1024.size a := by
  revert r; decide

/-- Row `r` of the totals buffer. -/
abbrev rowR (r : Dev nD) : Rect S16x1024 := Rect.unit (s := S16x1024) ![r.val, 0] S1x1024.size (row_inb r)
abbrev rowM (r : Dev nD) : Memref sig .tc .vmem S1x1024 .f32 := tM.slice (rowR r) (fun _ => rfl)

/-- The barrier semaphore (the runtime's, not scoped to the launch), the `k`-th send and receive semaphores. -/
abbrev barS : Sem sig := (SemArray.scalar (sig.barrier 0 rfl) : Sems sig S_).sem
set_option backward.proofsInPublic true in
def sendS (k : Fin 15) : DmaSem sig := ⟨2 + k.val, by have := k.isLt; show 2 + k.val < 32; omega⟩
set_option backward.proofsInPublic true in
def recvS (k : Fin 15) : DmaSem sig := ⟨17 + k.val, by have := k.isLt; show 17 + k.val < 32; omega⟩

abbrev barCell (c : Dev nD) : GSem nD τ sig := ((c : Thread nD τ), .reg barS)
abbrev sendCell (c : Dev nD) (k : Fin 15) : GSem nD τ sig := ((c : Thread nD τ), .dma (sendS k))
abbrev recvCell (c : Dev nD) (k : Fin 15) : GSem nD τ sig := ((c : Thread nD τ), .dma (recvS k))

/-- The cells of a device, indexed: the barrier, the sends, the receives. -/
abbrev CI : Type := Unit ⊕ (Fin 15 ⊕ Fin 15)
abbrev csem : CI → SemLoc sig
  | .inl _ => .reg barS
  | .inr (.inl k) => .dma (sendS k)
  | .inr (.inr k) => .dma (recvS k)
abbrev kcell (ci : Dev nD × CI) : GSem nD τ sig := ((ci.1 : Thread nD τ), csem ci.2)

/-- The credit of one row's transfer. -/
def N : ℕ := (rowM 0).view.dmaCredit
theorem N_pos : 0 < N := View.dmaCredit_pos _ (by decide)
theorem N_row (r : Dev nD) : (rowM r).view.dmaCredit = N := rfl

/-! ## Contents -/

variable (X : Dev nD → (cc0_stg0_0 : Ref sig .tc).ty.Contents (Elt F))

/-- The totals buffer when every row has arrived: row `d` holds the column sums of device `d`'s block. -/
def totBuf : (cc0_scratch0 : Ref sig .tc).ty.Contents (Elt F) := fun i =>
  k0_pay2 (X ⟨(i 0).val, (i 0).isLt⟩) (Shape.pair (d := ![1, 1024]) ⟨0, Nat.one_pos⟩ ⟨(i 1).val, (i 1).isLt⟩)

/-- Row `r` of device `d`'s totals buffer, at share `q`, holding what `f` holds there. -/
def rowPts (d r : Dev nD) (q : PosShare TreeShare) (f : (cc0_scratch0 : Ref sig .tc).ty.Contents (Elt F)) : sProp 𝕄 :=
  (rowM r).view.loc (d : Thread nD τ) ↦[(rowM r).view.set]{q} f

omit [FloatOps F] in
instance rowPts_storable (d r : Dev nD) (q f) : BI.Storable (upEmb : UEmb _ 𝕄) (rowPts (F := F) d r q f) := by unfold rowPts; infer_instance

/-! ## The schedule -/

/-- What device `d`'s signal hands device `c`: row `c` of `d`'s totals buffer. -/
def barPay (c d : Dev nD) : sProp 𝕄 := if d = c then iprop(emp) else iprop(∃ f, rowPts d c fullShare f)
/-- What the transfer arriving on receive cell `k` hands `c`: the row of the device it came from. -/
def recvPay (c : Dev nD) (k : Fin 15) : sProp 𝕄 := rowPts c (src c k) fullShare (totBuf X)
/-- What send cell `k` gives back: the share of `c`'s own row lent to the transfer. -/
def sendPay (c : Dev nD) (k : Fin 15) : sProp 𝕄 := rowPts c c (shareTokN fullShare k.val) (totBuf X)

/-- The payload of a DMA cell by its index. -/
def dmaPay (c : Dev nD) (q : DmaSem sig) : sProp 𝕄 :=
  if h : 17 ≤ q.val then recvPay X c ⟨q.val - 17, by have h2 : q.val < 32 := q.isLt; omega⟩
  else if h' : 2 ≤ q.val then sendPay X c ⟨q.val - 2, by omega⟩ else iprop(emp)

omit [FloatOps F] in
instance barPay_storable (c d : Dev nD) : BI.Storable (upEmb : UEmb _ 𝕄) (barPay (F := F) c d) := by
  unfold barPay; split <;> infer_instance
instance dmaPay_storable (c : Dev nD) (q : DmaSem sig) : BI.Storable (upEmb : UEmb _ 𝕄) (dmaPay (F := F) X c q) := by
  unfold dmaPay recvPay sendPay; (repeat' split) <;> infer_instance

/-- One round, round 0: a barrier cell has sixteen duties of one unit; a send or receive cell one duty of a row's credit. -/
def rd : Rounds.Schedule (GSem nD τ sig) (Dev nD) 𝕄 where
  duties g r := if r = 0 ∧ g.1.2 = .tc then
      (match g.2 with | .reg _ => Finset.univ | .dma q => if 2 ≤ q.val then {0} else ∅)
    else ∅
  unitless _ := False
  amount g _ _ := match g.2 with | .reg _ => 1 | .dma _ => N
  payload g _ d := match g.2 with | .reg _ => barPay g.1.1 d | .dma q => dmaPay X g.1.1 q
  amount_pos g _ _ _ := by
    rcases g with ⟨t, s⟩; cases s
    · exact Nat.one_pos
    · exact N_pos

instance rd_payload_storable (g : GSem nD τ sig) (r : ℕ) (d : Dev nD) :
    BI.Storable (upEmb : UEmb _ 𝕄) ((rd (F := F) X).payload g r d) := by
  rcases g with ⟨t, s⟩
  cases s
  · show BI.Storable upEmb (barPay t.1 d); infer_instance
  · show BI.Storable upEmb (dmaPay X t.1 _); infer_instance

section Sched
variable (c : Dev nD) (k : Fin 15)

theorem sendS_val : (sendS k).val = 2 + k.val := rfl
theorem recvS_val : (recvS k).val = 17 + k.val := rfl

theorem duties_bar : (rd (F := F) X).duties (barCell c) 0 = Finset.univ := by dsimp only [rd]; exact if_pos ⟨rfl, rfl⟩
theorem duties_send : (rd (F := F) X).duties (sendCell c k) 0 = {0} := by
  dsimp only [rd]; rw [if_pos ⟨rfl, rfl⟩]; exact if_pos (by rw [sendS_val]; omega)
theorem duties_recv : (rd (F := F) X).duties (recvCell c k) 0 = {0} := by
  dsimp only [rd]; rw [if_pos ⟨rfl, rfl⟩]; exact if_pos (by rw [recvS_val]; omega)
theorem duties_later (g : GSem nD τ sig) : ∀ r, 1 ≤ r → (rd (F := F) X).duties g r = ∅ :=
  fun r hr => by dsimp only [rd]; rw [if_neg fun h => by omega]

theorem expect_bar : (rd (F := F) X).expect (barCell c) 0 = 16 := by
  unfold Schedule.expect Schedule.amountOf
  rw [duties_bar]
  show (Finset.univ : Finset (Dev nD)).sum (fun _ => 1) = 16
  decide
theorem expect_send : (rd (F := F) X).expect (sendCell c k) 0 = N := by
  unfold Schedule.expect Schedule.amountOf; rw [duties_send, Finset.sum_singleton]; rfl
theorem expect_recv : (rd (F := F) X).expect (recvCell c k) 0 = N := by
  unfold Schedule.expect Schedule.amountOf; rw [duties_recv, Finset.sum_singleton]; rfl

theorem payload_bar (d : Dev nD) : (rd (F := F) X).payload (barCell c) 0 d = barPay c d := rfl
theorem payload_send (d : Dev nD) : (rd (F := F) X).payload (sendCell c k) 0 d = sendPay X c k := by
  show dmaPay X c (sendS k) = _
  have := k.isLt
  unfold dmaPay
  rw [dif_neg (by rw [sendS_val]; omega), dif_pos (by rw [sendS_val]; omega)]
  congr 1; apply Fin.ext; show (sendS k).val - 2 = k.val; rw [sendS_val]; omega
theorem payload_recv (d : Dev nD) : (rd (F := F) X).payload (recvCell c k) 0 d = recvPay X c k := by
  show dmaPay X c (recvS k) = _
  have := k.isLt
  unfold dmaPay
  rw [dif_pos (by rw [recvS_val]; omega)]
  congr 1; apply Fin.ext; show (recvS k).val - 17 = k.val; rw [recvS_val]; omega

theorem rest_bar : bigSep ((rd (F := F) X).duties (barCell c) 0 \ ∅) (fun d => (rd (F := F) X).payload (barCell c) 0 d) = bigSep Finset.univ (barPay c) := by
  rw [Finset.sdiff_empty, duties_bar]; rfl
theorem rest_send : bigSep ((rd (F := F) X).duties (sendCell c k) 0 \ ∅) (fun d => (rd (F := F) X).payload (sendCell c k) 0 d) = sendPay X c k := by
  rw [Finset.sdiff_empty, duties_send, bigSep_singleton, payload_send]
theorem rest_recv : bigSep ((rd (F := F) X).duties (recvCell c k) 0 \ ∅) (fun d => (rd (F := F) X).payload (recvCell c k) 0 d) = recvPay X c k := by
  rw [Finset.sdiff_empty, duties_recv, bigSep_singleton, payload_recv]

end Sched

/-! ## What each device owes; the levels -/

/-- The row credits device `c` still owes, for the transfers of a list; -/
def owedSend (c : Dev nD) : List (Fin 15) → CellTallies nD τ sig Unit
  | [] => 0
  | k :: ks => owedSend c ks + tallyAt (recvCell (tgt c k) k) () N
/-- the barrier units it still owes, for the devices of a list. -/
def owedBar : List (Dev nD) → CellTallies nD τ sig Unit
  | [] => 0
  | d :: ds => owedBar ds + tallyAt (barCell d) () 1
def O₀ (c : Dev nD) : CellTallies nD τ sig Unit := owedSend c allK + owedBar allDev

def L (g : GSem nD τ sig) : Finset Unit := if g.1.2 = .tc then {()} else ∅
/-- The barrier at 1, the receives at 2, everything else (staging, sends) at 0. -/
def lv (g : GSem nD τ sig) (_ : Unit) : ℕ := match g.2 with | .reg _ => 1 | .dma q => if 17 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem owedSend_pos {c : Dev nD} {g : GSem nD τ sig} {u : Unit} : ∀ {ks : List (Fin 15)}, 0 < owedSend c ks g u → ∃ d k, g = recvCell d k
  | [], h => absurd h (Nat.lt_irrefl 0)
  | k :: ks, h => by
    unfold owedSend at h
    rw [Pi.add_apply, Finsupp.add_apply] at h
    rcases Nat.add_pos_iff_pos_or_pos.mp h with h | h
    · exact owedSend_pos h
    · exact ⟨_, _, tally_pos h⟩
theorem owedBar_pos {g : GSem nD τ sig} {u : Unit} : ∀ {ds : List (Dev nD)}, 0 < owedBar ds g u → ∃ d, g = barCell d
  | [], h => absurd h (Nat.lt_irrefl 0)
  | d :: ds, h => by
    unfold owedBar at h
    rw [Pi.add_apply, Finsupp.add_apply] at h
    rcases Nat.add_pos_iff_pos_or_pos.mp h with h | h
    · exact owedBar_pos h
    · exact ⟨_, tally_pos h⟩
theorem O₀_pos {c : Dev nD} {g : GSem nD τ sig} {u : Unit} (h : 0 < O₀ c g u) : (∃ d k, g = recvCell d k) ∨ ∃ d, g = barCell d := by
  unfold O₀ at h
  rw [Pi.add_apply, Finsupp.add_apply] at h
  rcases Nat.add_pos_iff_pos_or_pos.mp h with h | h
  · exact .inl (owedSend_pos h)
  · exact .inr (owedBar_pos h)

theorem lv_recv (d : Dev nD) (k : Fin 15) : lv (recvCell d k) () = 2 := by
  show (if 17 ≤ (recvS k).val then 2 else 0) = 2; exact if_pos (by rw [recvS_val]; omega)

omit [FloatOps F] in
theorem mayWait_stage (c : Dev nD) (q : DmaSem sig) (hq : q.val < 17) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, k, rfl⟩ | ⟨d, rfl⟩ <;> exact Finset.mem_singleton_self _)
      (fun p hp => by rw [Finset.mem_singleton.mp hp]; show (if 17 ≤ q.val then 2 else 0) ≤ 0; rw [if_neg (by omega)])
      (fun g u hg => by
        rcases O₀_pos hg with ⟨d, k, rfl⟩ | ⟨d, rfl⟩
        · rw [lv_recv]; decide
        · show 0 < 1; decide)
  · rw [MayWait_zero]; iintro -; iempintro

omit [FloatOps F] in
/-- At its barrier wait a device owes row credits only: receive cells, above the barrier. -/
theorem mayWait_bar (c : Dev nD) (ks : List (Fin 15)) :
    (levAts L lv : sProp 𝕄) ⊢ MayWait (c : Thread nD τ) (.reg barS) () (owedSend c ks) :=
  MayOwe.of_cut (L := L) (lev := lv) 1 (fun p hp => by rw [Finset.mem_singleton.mp hp, L_tc]; exact Finset.mem_singleton_self _)
    (fun g u hg => by rcases owedSend_pos hg with ⟨d, k, rfl⟩; exact Finset.mem_singleton_self _)
    (fun p hp => by rw [Finset.mem_singleton.mp hp]; show 1 ≤ 1; decide)
    (fun g u hg => by rcases owedSend_pos hg with ⟨d, k, rfl⟩; rw [lv_recv]; decide)

/-! ## The records every device keeps: the invariants and reached rounds of all cells, and the levels -/

/-- The levels of all cells, kept folded. -/
@[irreducible] def levs : sProp 𝕄 := levAts L lv

instance levs_persistent : BI.Persistent (levs (F := F)) := by unfold levs; infer_instance

omit [FloatOps F] in
theorem levs_wait (c : Dev nD) (ks : List (Fin 15)) :
    levs (F := F) ⊢ MayWait (c : Thread nD τ) (.reg barS) () (owedSend c ks) := by unfold levs; exact mayWait_bar c ks

def records (K : Dev nD × CI → ℕ) : sProp 𝕄 :=
  iprop((bigSep Finset.univ fun ci : Dev nD × CI => cellInv ER (rd X) (K ci) (kcell ci))
    ∗ (bigSep Finset.univ fun ci : Dev nD × CI => reached ER (kcell ci) 0) ∗ levs)

instance records_persistent (K : Dev nD × CI → ℕ) : BI.Persistent (records X K) := by unfold records; infer_instance

theorem inv_at (K : Dev nD × CI → ℕ) (ci : Dev nD × CI) : records X K ⊢ cellInv ER (rd X) (K ci) (kcell ci) := by
  unfold records
  iintro ⟨#HI, -, -⟩
  iapply (show (bigSep Finset.univ fun ci : Dev nD × CI => (cellInv ER (rd X) (K ci) (kcell ci) : sProp 𝕄)) ⊢ cellInv ER (rd X) (K ci) (kcell ci) from
    bigSep_elim (Finset.mem_univ ci))
  iexact HI
theorem reached_at (K : Dev nD × CI → ℕ) (ci : Dev nD × CI) : records X K ⊢ reached ER (kcell ci) 0 := by
  unfold records
  iintro ⟨-, #HR, -⟩
  iapply (show (bigSep Finset.univ fun ci : Dev nD × CI => (reached ER (kcell ci) 0 : sProp 𝕄)) ⊢ reached ER (kcell ci) 0 from
    bigSep_elim (Finset.mem_univ ci))
  iexact HR
theorem lev_at (K : Dev nD × CI → ℕ) : records X K ⊢ levs := by
  unfold records
  iintro ⟨-, -, #HL⟩
  iexact HL

/-! ## The rows of the totals buffer -/

theorem row_mem (r : Dev nD) (i : S16x1024.Idx) : i ∈ (rowM r).view.set ↔ (i 0).val = r.val := by
  show i ∈ ((View.whole cc0_scratch0).slice (rowR r)).set ↔ _
  rw [View.set_slice_whole, LoadRect.mem_set]
  constructor
  · intro h
    obtain ⟨j, hj, e⟩ := h 0
    have hj' : j < 1 := hj
    have e' : (i 0).val = r.val + 1 * j := e
    omega
  · intro h a
    rcases a with ⟨_ | _ | n, ha⟩
    · exact ⟨0, Nat.one_pos, by show (i 0).val = r.val + 1 * 0; omega⟩
    · exact ⟨(i 1).val, (i 1).isLt, by show (i 1).val = 0 + 1 * (i 1).val; omega⟩
    · exact absurd ha (by show ¬ n + 1 + 1 < 2; omega)

/-- The elements of row `r`. -/
abbrev rowSet (r : Dev nD) : Finset S16x1024.Idx := (rowM r).view.set

theorem row_disj : ∀ b b' : Dev nD, b ≠ b' → Disjoint (rowSet b) (rowSet b') := fun b b' h => by
  rw [Finset.disjoint_left]
  intro i hi hi'
  exact h (Fin.ext (((row_mem b i).mp hi).symm.trans ((row_mem b' i).mp hi')))
theorem row_cover : (Finset.univ : Finset (Dev nD)).biUnion (rowSet) = Finset.univ := by
  ext i
  simp only [Finset.mem_biUnion, Finset.mem_univ, true_and, iff_true]
  exact ⟨⟨(i 0).val, (i 0).isLt⟩, (row_mem _ i).mpr rfl⟩

omit [FloatOps F] in
/-- The totals buffer whole is its sixteen rows. -/
theorem tot_rows (d : Dev nD) (q : PosShare TreeShare) (f : (cc0_scratch0 : Ref sig .tc).ty.Contents (Elt F)) :
    (((d : Thread nD τ).loc cc0_scratch0) ↦{q} f : sProp 𝕄) = bigSep Finset.univ fun r : Dev nD => rowPts d r q f :=
  Ring.pointsTo_blocks (ℓ := (d : Thread nD τ).loc cc0_scratch0) rowSet row_disj row_cover f

omit [FloatOps F] in
/-- A row depends on the contents at that row only. -/
theorem rowPts_congr {d r : Dev nD} {q : PosShare TreeShare} {f g : (cc0_scratch0 : Ref sig .tc).ty.Contents (Elt F)}
    (h : ∀ i : S16x1024.Idx, (i 0).val = r.val → f i = g i) : rowPts d r q f = rowPts d r q g := by
  unfold rowPts
  exact pointsTo_congr fun i hi => h i ((row_mem r i).mp hi)

omit [FloatOps F] in
/-- Writing a row read from `g` leaves the row as `g` has it. -/
theorem row_landed (r : Dev nD) (f g : (cc0_scratch0 : Ref sig .tc).ty.Contents (Elt F)) (i : S16x1024.Idx) (hi : (i 0).val = r.val) :
    (rowM r).view.write (Elt F) f ((rowM r).view.read (Elt F) g) Finset.univ i = g i := by
  rw [View.write_read_eq_piecewise]
  exact Finset.piecewise_eq_of_mem _ _ _ (by rw [View.setOn_univ]; exact (row_mem r i).mpr hi)

end Cert.KernelIdealRun

end
-- ==== Proof.KernelIdealRun.Steps.lean ====
/-
  One lemma per effect of the kernel's body: the assertion before the effect entails the body's clause when the assertion
  after it entails the rest's. The device addressed, the semaphore, the offsets and the amount are variables with an
  equation each, so that the effect as it is printed fits; the assertions carry an arbitrary frame `R`.
-/
module

public import proofs.«01_k».proof.Proof.KernelIdealRun.Common

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

/-! ## The values the body computes -/

theorem blk_inb (n : ℕ) : ∀ a, (![128 * (n % 32), 0] : Fin 2 → ℕ) a + S128x1024.size a ≤ S4096x1024.size a := fun a => by
  rcases a with ⟨_ | _ | m, ha⟩
  · show 128 * (n % 32) + 128 ≤ 4096; omega
  · show 0 + 1024 ≤ 1024; omega
  · exact absurd ha (by show ¬ m + 1 + 1 < 2; omega)

/-- The `n`-th block of 128 rows. -/
abbrev blkR (n : ℕ) : Rect S4096x1024 := Rect.unit (s := S4096x1024) ![128 * (n % 32), 0] S128x1024.size (blk_inb n)
/-- The `n`-th block of the staged `x`, as the body loads it. -/
def xblk (x : (cc0_stg0_0 : Ref sig .tc).ty.Contents (Elt F)) (n : ℕ) : Vec F S128x1024 .f32 :=
  xM.view.readAt (Elt F) (blkR n).toLoadRect x
/-- The prefix sums inside a block: the product with the lower triangular matrix of ones. -/
def within (x : (cc0_stg0_0 : Ref sig .tc).ty.Contents (Elt F)) (n : ℕ) : FVec F S128x1024 .f32 := k0_pay5 (xblk x n)
/-- The sum of the blocks before the `n`-th. -/
def running (x : (cc0_stg0_0 : Ref sig .tc).ty.Contents (Elt F)) : ℕ → FVec F S1x1024 .f32
  | 0 => k0_pay4
  | n + 1 => addf (running x n) (extractStridedSlice S1x1024 ![127, 0] (within x n) slices_S128x1024_o127_0_S1x1024)
/-- What the body stores for the `n`-th block. -/
def outBlk (x : (cc0_stg0_0 : Ref sig .tc).ty.Contents (Elt F)) (n : ℕ) : FVec F S128x1024 .f32 :=
  addf (within x n) (broadcastTo S128x1024 (running x n) broadcasts_S1x1024_S128x1024)
/-- The output staging buffer after all thirty-two stores: the prefix sums inside the device's block. -/
def localOut (x : (cc0_stg0_0 : Ref sig .tc).ty.Contents (Elt F)) : (cc0_stg1_0 : Ref sig .tc).ty.Contents (Elt F) := fun i =>
  outBlk x ((i 0).val / 128) (Shape.pair (d := ![128, 1024]) ⟨(i 0).val % 128, Nat.mod_lt _ (by decide)⟩ ⟨(i 1).val, (i 1).isLt⟩)
/-- The kernel's result on device `c`. -/
def outAt (X : Dev nD → (cc0_stg0_0 : Ref sig .tc).ty.Contents (Elt F)) (c : Dev nD) : (cc0_stg1_0 : Ref sig .tc).ty.Contents (Elt F) :=
  k0_pay1 (k0_pay100 (localOut (X c))) (k0_pay101 (Scalar.remsi (Scalar.divsi (Dev.word c) 1#32) 16#32) (totBuf X))

variable (X : Dev nD → (cc0_stg0_0 : Ref sig .tc).ty.Contents (Elt F)) (K : Dev nD × CI → ℕ) (c : Dev nD)

abbrev 𝒱₀ : Variants := Variants.none

/-- The weakest precondition of a program of device `c`'s body. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A part's postcondition: its result is `v`, and `P`. -/
def rets {α : Type} (v : α) (P : sProp 𝕄) (r : α) : sProp 𝕄 := iprop(⌜r = v⌝ ∗ P)

/-- Running a part whose result is known, then the rest. -/
theorem bind_step {α β : Type} {p : Prog (TpuEff nD τ sig (Elt F) Λ₀ .tc) α} {k : α → Prog (TpuEff nD τ sig (Elt F) Λ₀ .tc) β}
    {Q : β → sProp 𝕄} {P P' : sProp 𝕄} (v : α) (hp : P ⊢ wpc c p (rets v P')) (hk : P' ⊢ wpc c (k v) Q) :
    P ⊢ wpc c (p >>= k) Q := by
  unfold wpc at *
  rw [wp_bind]
  refine hp.trans (wp_mono _ _ _ fun r => ?_)
  unfold rets
  iintro ⟨%h, HP⟩
  subst h
  iapply hk; iexact HP

/-- The end of a part. -/
theorem ret_step {α : Type} (v : α) {P : sProp 𝕄} : P ⊢ wpc c (.ret v) (rets v P) := by
  unfold wpc rets
  rw [wp_ret]
  iintro H
  imodintro
  isplitr; · ipureintro; rfl
  iexact H

/-! ## The barrier -/

/-- Device `c`'s account: what it owes. -/
def acct (O : CellTallies nD τ sig Unit) : sProp 𝕄 := iprop(∃ W, owes (c : Thread nD τ) O W)

/-- What `c` pays with when it signals `d`. -/
def sigPre (d : Dev nD) : sProp 𝕄 := iprop(dutyTok ER (barCell d) 0 c ∗ barPay d c)

theorem step_sig (d : Dev nD) {d' : Dev nD} (hd : d' = d) {sem : Sem sig} (hs : sem = barS) {n : ℤ} (hn : n = ((1 : ℕ) : ℤ))
    {ds : List (Dev nD)} {ks : List (Fin 15)} {R : sProp 𝕄} {α : Type} {Q : α → sProp 𝕄} {k : PUnit → Prog (TpuEff nD τ sig (Elt F) Λ₀ .tc) α}
    (h : iprop(records X K ∗ acct c (owedSend c ks + owedBar ds) ∗ sepL (sigPre c) ds ∗ R) ⊢ wpc c (k ⟨⟩) Q) :
    iprop(records X K ∗ acct c (owedSend c ks + owedBar (d :: ds)) ∗ sepL (sigPre c) (d :: ds) ∗ R)
      ⊢ wpc c (.op (.semSignal (Dev.tc d' : Thread nD τ) sem n) k) Q := by
  subst hd hs hn
  rw [sepL, show sigPre c d' = iprop(dutyTok ER (barCell d') 0 c ∗ barPay d' c) from rfl]
  iintro ⟨#Hrec, HA, Hs, HR⟩
  unfold acct
  icases HA with ⟨%W, HO⟩
  icases Hs with ⟨⟨Htok, Hpay⟩, Hs⟩
  iapply (Rounds.wp_signal 𝒱₀ ER (rd X) (c : Thread nD τ) none (dst := (d' : Thread nD τ)) (κ := K (d', .inl ()))
      (d := c) (r := 0) (by rw [duties_bar]; exact Finset.mem_univ _) (k' := 1) rfl () (owedSend c ks + owedBar ds)
      ((add_assoc _ _ _).symm)) $$ [HO Htok Hpay]
  · isplitr; · iapply (inv_at X K (d', .inl ())); iexact Hrec
    isplitl [HO]; · iexact HO
    isplitl [Htok]; · iexact Htok
    isplitl [Hpay]; · iapply (Entails.of_eq (payload_bar X d' c).symm); iexact Hpay
    iapply (reached_at X K (d', .inl ())); iexact Hrec
  iintro HO
  iapply h
  isplitr; · iexact Hrec
  isplitl [HO]; · unfold acct; iexists W; iexact HO
  isplitl [Hs]; · iexact Hs
  iexact HR

theorem step_bar {sem : Sem sig} (hs : sem = barS) {n : ℤ} (hn : n = ((16 : ℕ) : ℤ)) {ks : List (Fin 15)}
    {R : sProp 𝕄} {α : Type} {Q : α → sProp 𝕄} {k : PUnit → Prog (TpuEff nD τ sig (Elt F) Λ₀ .tc) α}
    (h : iprop(records X K ∗ acct c (owedSend c ks) ∗ (semVal (barCell c) 0 ∗ bigSep Finset.univ (barPay c)) ∗ R) ⊢ wpc c (k ⟨⟩) Q) :
    iprop(records X K ∗ acct c (owedSend c ks + owedBar []) ∗ (atPos ER (barCell c) 0 ∅ 0 ∗ cred (tallyAt (barCell c) () 16)) ∗ R)
      ⊢ wpc c (.op (.semWait sem n) k) Q := by
  subst hs hn
  iintro ⟨#Hrec, HA, ⟨Hat, Hc⟩, HR⟩
  unfold acct
  icases HA with ⟨%W, HO⟩
  rw [owedBar, add_zero]
  iapply (Rounds.wp_wait_rest_token 𝒱₀ ER (rd X) (c : Thread nD τ) none (κ := K (c, .inl ()))
      (wpE_semWait_eq 𝒱₀ (c : Thread nD τ) none Set.univ) (Set.mem_univ _) () (O := owedSend c ks) (W := W) (R := 0) (m := 0) (T := ∅)
      (k' := 16) ((Nat.zero_add 16).trans (expect_bar X c).symm)) $$ [Hc HO Hat]
  · isplitr; · iapply (inv_at X K (c, .inl ())); iexact Hrec
    isplitl [Hc]; · iexact Hc
    isplitl [HO]; · iexact HO
    isplitr; · iapply (levs_wait c ks); iapply (lev_at X K); iexact Hrec
    iexact Hat
  iintro ⟨HO, Hat, -, Hpay⟩
  ihave Hp := (Entails.of_eq (rest_bar X c)) $$ Hpay
  iapply (fupd_wp _ _ _ _ _)
  imod (Rounds.cell_close ER (rd X) (Set.mem_univ (K (c, .inl ()))) (fun h => h) (R := 0 + 1) (duties_later X (barCell c))) $$ [Hat] with Hz
  · isplitr; · iapply (inv_at X K (c, .inl ())); iexact Hrec
    iexact Hat
  imodintro
  iapply h
  isplitr; · iexact Hrec
  isplitl [HO]; · unfold acct; iexists _; iexact HO
  isplitl [Hz Hp]
  · isplitl [Hz] <;> iassumption
  iexact HR

/-! ## The transfers -/

/-- What `c` starts its `k`-th transfer with, -/
def sendPre (k : Fin 15) : sProp 𝕄 :=
  iprop((dutyTok ER (sendCell c k) 0 0 ∗ dutyTok ER (recvCell (tgt c k) k) 0 0) ∗ rowPts c c (shareTokN fullShare k.val) (totBuf X)
    ∗ ∃ f, rowPts (tgt c k) c fullShare f)
/-- and what it holds once started. -/
def sent (k : Fin 15) : sProp 𝕄 := cred (tallyAt (sendCell c k) () N)

theorem step_send (k : Fin 15) {d' : Dev nD} (hd : d' = tgt c k) {sS rS : DmaSem sig} (hsS : sS = sendS k) (hrS : rS = recvS k)
    {off off' : Fin 2 → ℕ} (ho : off = ![c.val, 0]) (ho' : off' = ![c.val, 0])
    {inb : ∀ a, off a + S1x1024.size a ≤ S16x1024.size a} {inb' : ∀ a, off' a + S1x1024.size a ≤ S16x1024.size a}
    {hsc} {hsrc} {hdst} {hsem}
    {ks done : List (Fin 15)} {R : sProp 𝕄} {α : Type} {Q : α → sProp 𝕄} {kk : PUnit → Prog (TpuEff nD τ sig (Elt F) Λ₀ .tc) α}
    (h : iprop(records X K ∗ acct c (owedSend c ks) ∗ sepL (sendPre X c) ks ∗ sepL (sent c) (k :: done) ∗ R) ⊢ wpc c (kk ⟨⟩) Q) :
    iprop(records X K ∗ acct c (owedSend c (k :: ks)) ∗ sepL (sendPre X c) (k :: ks) ∗ sepL (sent c) done ∗ R)
      ⊢ wpc c (.op (.enqueueDma (tM.slice (Rect.unit (s := S16x1024) off S1x1024.size inb) (fun _ => rfl))
          (.remote (Dev.tc d' : Thread nD τ) (tM.slice (Rect.unit (s := S16x1024) off' S1x1024.size inb') (fun _ => rfl)) (.dma sS) hsc)
          (.dma rS) hsrc hdst hsem) kk) Q := by
  subst hd hsS hrS ho ho'
  rw [sepL, show sendPre X c k = iprop((dutyTok ER (sendCell c k) 0 0 ∗ dutyTok ER (recvCell (tgt c k) k) 0 0)
    ∗ rowPts c c (shareTokN fullShare k.val) (totBuf X) ∗ ∃ f, rowPts (tgt c k) c fullShare f) from rfl]
  iintro ⟨#Hrec, HA, Hs, Hd, HR⟩
  unfold acct
  icases HA with ⟨%W, HO⟩
  icases Hs with ⟨⟨⟨HtS, HtR⟩, Hsrc, ⟨%fd, Hdst⟩⟩, Hs⟩
  iapply (Rounds.wp_send_pointsTo 𝒱₀ ER (rd X) (c : Thread nD τ) none (κ₁ := K (c, .inr (.inl k))) (κ₂ := K (tgt c k, .inr (.inr k)))
    (src := rowM c) (dst := rowM c) (sS := .dma (sendS k)) (sem := .dma (recvS k)) (c' := (tgt c k : Thread nD τ))
    (r₁ := 0) (r₂ := 0) (d₁ := 0) (d₂ := 0) (fs := totBuf X) (fd := fd) (q := shareTokN fullShare k.val)
    (by rw [duties_send]; exact Finset.mem_singleton_self _) (by rw [duties_recv]; exact Finset.mem_singleton_self _)
    () () N rfl rfl rfl (owedSend c ks) rfl (W := W)
    (by rw [payload_send]; exact BI.Entails.refl _)
    (by
      rw [payload_recv]; unfold recvPay; rw [src_tgt]
      refine Entails.of_eq ?_
      exact rowPts_congr (d := tgt c k) (r := c) fun i hi => row_landed c fd (totBuf X) i hi)) $$ [Hsrc Hdst HO HtS HtR]
  · isplitr; · iapply (inv_at X K (c, .inr (.inl k))); iexact Hrec
    isplitr; · iapply (inv_at X K (tgt c k, .inr (.inr k))); iexact Hrec
    isplitl [Hsrc]; · iapply (Entails.of_eq (rowPts.eq_1 c c (shareTokN fullShare k.val) (totBuf X))); iexact Hsrc
    isplitl [Hdst]; · iapply (Entails.of_eq (rowPts.eq_1 (tgt c k) c fullShare fd)); iexact Hdst
    isplitl [HO]; · iexact HO
    isplitl [HtS]; · iexact HtS
    isplitr; · iapply (reached_at X K (c, .inr (.inl k))); iexact Hrec
    isplitl [HtR]; · iexact HtR
    iapply (reached_at X K (tgt c k, .inr (.inr k))); iexact Hrec
  iintro ⟨Hc, HO⟩
  iapply h
  isplitr; · iexact Hrec
  isplitl [HO]; · unfold acct; iexists W; iexact HO
  isplitl [Hs]; · iexact Hs
  isplitl [Hd Hc]
  · rw [sepL]; isplitl [Hc]; · unfold sent; iexact Hc
    iexact Hd
  iexact HR

/-! ## The waits -/

/-- The semaphore of a transfer wait: a send's or a receive's; -/
abbrev wsem : Fin 15 ⊕ Fin 15 → DmaSem sig
  | .inl k => sendS k
  | .inr k => recvS k
abbrev wcell (i : Fin 15 ⊕ Fin 15) : GSem nD τ sig := ((c : Thread nD τ), .dma (wsem i))
/-- what it gives back; -/
def wpay : Fin 15 ⊕ Fin 15 → sProp 𝕄
  | .inl k => sendPay X c k
  | .inr k => recvPay X c k
/-- what `c` waits with, and what it holds afterwards: the payload and the closed cell's counter. -/
def waitPre (i : Fin 15 ⊕ Fin 15) : sProp 𝕄 := iprop(atPos ER (wcell c i) 0 ∅ 0 ∗ cred (tallyAt (wcell c i) () N))
def waited (i : Fin 15 ⊕ Fin 15) : sProp 𝕄 := iprop(wpay X c i ∗ semVal (wcell c i) 0)

theorem wait_expect (i : Fin 15 ⊕ Fin 15) : (rd (F := F) X).expect (wcell c i) 0 = N := by
  cases i
  · exact expect_send X c _
  · exact expect_recv X c _
theorem wait_rest (i : Fin 15 ⊕ Fin 15) :
    bigSep ((rd (F := F) X).duties (wcell c i) 0 \ ∅) (fun d => (rd (F := F) X).payload (wcell c i) 0 d) = wpay X c i := by
  cases i
  · exact rest_send X c _
  · exact rest_recv X c _
theorem wait_inv (i : Fin 15 ⊕ Fin 15) : records X K ⊢ cellInv ER (rd X) (K (c, .inr i)) (wcell c i) := by
  cases i <;> exact inv_at X K (c, _)

theorem step_wait (i : Fin 15 ⊕ Fin 15) {q : DmaSem sig} (hq : q = wsem i)
    {sp sp' : Space} {s s' : Shape} {e e' : EltTy} {src : Memref sig .tc sp' s' e'} {dst : Memref sig .tc sp s e}
    (hN : dst.view.dmaCredit = N) {hsrc : src.view.WordExact} {hdst : dst.view.WordExact}
    {is done : List (Fin 15 ⊕ Fin 15)} {R : sProp 𝕄} {α : Type} {Q : α → sProp 𝕄} {kk : PUnit → Prog (TpuEff nD τ sig (Elt F) Λ₀ .tc) α}
    (h : iprop(records X K ∗ acct c 0 ∗ sepL (waitPre c) is ∗ sepL (waited X c) (i :: done) ∗ R) ⊢ wpc c (kk ⟨⟩) Q) :
    iprop(records X K ∗ acct c 0 ∗ sepL (waitPre c) (i :: is) ∗ sepL (waited X c) done ∗ R)
      ⊢ wpc c (.op (.waitDma2 q src dst hsrc hdst) kk) Q := by
  subst hq
  rw [sepL, show waitPre c i = iprop(atPos ER (wcell c i) 0 ∅ 0 ∗ cred (tallyAt (wcell c i) () N)) from rfl]
  iintro ⟨#Hrec, HA, Hs, Hd, HR⟩
  unfold acct
  icases HA with ⟨%W, HO⟩
  icases Hs with ⟨⟨Hat, Hc⟩, Hs⟩
  rw [← hN]
  iapply (Rounds.wp_wait_rest_token 𝒱₀ ER (rd X) (c : Thread nD τ) none (κ := K (c, .inr i))
      (wpE_waitDma2_eq 𝒱₀ (c : Thread nD τ) none Set.univ) (Set.mem_univ _) () (O := 0) (W := W) (R := 0) (m := 0) (T := ∅)
      (by rw [Nat.zero_add]; exact hN.trans (wait_expect X c i).symm)) $$ [Hc HO Hat]
  · isplitr; · iapply (wait_inv X K c i); iexact Hrec
    isplitl [Hc]; · iexact Hc
    isplitl [HO]; · iexact HO
    isplitr; · rw [MayWait_zero]; iempintro
    iexact Hat
  iintro ⟨HO, Hat, -, Hpay⟩
  ihave Hp := (Entails.of_eq (wait_rest X c i)) $$ Hpay
  iapply (fupd_wp _ _ _ _ _)
  imod (Rounds.cell_close ER (rd X) (Set.mem_univ (K (c, .inr i))) (fun h => h) (R := 0 + 1) (duties_later X (wcell c i))) $$ [Hat] with Hz
  · isplitr; · iapply (wait_inv X K c i); iexact Hrec
    iexact Hat
  imodintro
  iapply h
  isplitr; · iexact Hrec
  isplitl [HO]; · unfold acct; iexists _; iexact HO
  isplitl [Hs]; · iexact Hs
  isplitl [Hd Hz Hp]
  · rw [sepL]; isplitl [Hz Hp]
    · unfold waited; isplitl [Hp] <;> iassumption
    · iexact Hd
  iexact HR

/-! ## The loads and stores -/

/-- `c`'s staged block of `x`; -/
def xPts : sProp 𝕄 := ((c : Thread nD τ).loc cc0_stg0_0) ↦{fullShare} X c
/-- its output staging buffer once the first `n` blocks are stored. -/
def oPts (n : ℕ) : sProp 𝕄 :=
  iprop(∃ f : Buf (Elt F) ((c : Thread nD τ).loc cc0_stg1_0), ⌜∀ i : S4096x1024.Idx, (i 0).val < 128 * n → f i = localOut (X c) i⌝
    ∗ (((c : Thread nD τ).loc cc0_stg1_0) ↦{fullShare} f))

theorem step_loadx (n : ℕ) {off : Fin 2 → ℕ} (ho : off = ![128 * (n % 32), 0])
    {inb : ∀ a, off a + S128x1024.size a ≤ S4096x1024.size a} {hl}
    {R : sProp 𝕄} {α : Type} {Q : α → sProp 𝕄} {k : Vec F S128x1024 .f32 → Prog (TpuEff nD τ sig (Elt F) Λ₀ .tc) α}
    (h : iprop(xPts X c ∗ R) ⊢ wpc c (k (xblk (X c) n)) Q) :
    iprop(xPts X c ∗ R) ⊢ wpc c (.op (.load xM (Rect.unit (s := S4096x1024) off S128x1024.size inb).toLoadRect hl) k) Q := by
  subst ho
  unfold xPts
  iintro ⟨Hx, HR⟩
  iapply (wp_load 𝒱₀ (c : Thread nD τ) none Set.univ (m := xM) (Finset.subset_univ _)) $$ Hx
  iintro Hx
  iapply h
  unfold xPts
  isplitl [Hx] <;> iassumption

/-- A load of the output buffer whose result is not used. -/
theorem step_deado {n : ℕ} {r : LoadRect S4096x1024} {hl} {P R : sProp 𝕄} {α : Type} {Q : α → sProp 𝕄}
    {k : (r.shape.Idx → Elt F .f32) → Prog (TpuEff nD τ sig (Elt F) Λ₀ .tc) α}
    (h : ∀ v, iprop(P ∗ oPts X c n ∗ R) ⊢ wpc c (k v) Q) :
    iprop(P ∗ oPts X c n ∗ R) ⊢ wpc c (.op (.load oM r hl) k) Q := by
  unfold oPts
  iintro ⟨HP, ⟨%f, %hf, Ho⟩, HR⟩
  iapply (wp_load 𝒱₀ (c : Thread nD τ) none Set.univ (m := oM) (Finset.subset_univ _)) $$ Ho
  iintro Ho
  iapply (h _)
  isplitl [HP]; · iexact HP
  isplitl [Ho]
  · unfold oPts; iexists f; isplitr; · ipureintro; exact hf
    iexact Ho
  iexact HR

/-- Storing block `n` of the local prefix sums extends the agreement by 128 rows. -/
theorem store_blk (x : (cc0_stg0_0 : Ref sig .tc).ty.Contents (Elt F)) (n : ℕ) (hn : n < 32) (f : (cc0_stg1_0 : Ref sig .tc).ty.Contents (Elt F))
    (hf : ∀ i : S4096x1024.Idx, (i 0).val < 128 * n → f i = localOut x i) (i : S4096x1024.Idx) (hi : (i 0).val < 128 * (n + 1)) :
    (oM.access (blkR n)).write (Elt F) f (outBlk x n) Finset.univ i = localOut x i := by
  have hm : n % 32 = n := Nat.mod_eq_of_lt hn
  by_cases hlo : (i 0).val < 128 * n
  · rw [← hf i hlo]
    refine View.write_of_not_mem (v := oM.access (blkR n)) (Val := Elt F) f (outBlk x n) Finset.univ ?_
    rw [View.setOn_univ]
    show i ∉ ((View.whole cc0_stg1_0).slice (blkR n)).set
    rw [View.set_slice_whole, LoadRect.mem_set]
    intro hh
    obtain ⟨j, hj, e⟩ := hh 0
    have e' : (i 0).val = 128 * (n % 32) + 1 * j := e
    omega
  · have hr : (i 0).val - 128 * n < 128 := by omega
    have hw := View.write_emb_of_mem (v := oM.access (blkR n)) (Val := Elt F) f (outBlk x n) (M := Finset.univ)
      (x := Shape.pair (d := ![128, 1024]) ⟨(i 0).val - 128 * n, hr⟩ ⟨(i 1).val, (i 1).isLt⟩) (Finset.mem_univ _)
    have he : (oM.access (blkR n)).emb (Shape.pair (d := ![128, 1024]) ⟨(i 0).val - 128 * n, hr⟩ ⟨(i 1).val, (i 1).isLt⟩) = i := by
      funext a; apply Fin.ext
      rcases a with ⟨_ | _ | m, ha⟩
      · show 128 * (n % 32) + 1 * ((i 0).val - 128 * n) = (i 0).val; omega
      · show 0 + 1 * (i 1).val = (i 1).val; omega
      · exact absurd ha (by show ¬ m + 1 + 1 < 2; omega)
    rw [he] at hw
    rw [hw]
    have h1 : (i 0).val / 128 = n := by omega
    have h2 : (i 0).val % 128 = (i 0).val - 128 * n := by omega
    show outBlk x n _ = outBlk x ((i 0).val / 128) _
    rw [h1]
    congr 2
    exact Fin.ext h2.symm

theorem step_storeo (n : ℕ) (hn : n < 32) {off : Fin 2 → ℕ} (ho : off = ![128 * (n % 32), 0])
    {inb : ∀ a, off a + S128x1024.size a ≤ S4096x1024.size a} {w : FVec F S128x1024 .f32} (hw : w = outBlk (X c) n) {hx} {hm}
    {P R : sProp 𝕄} {α : Type} {Q : α → sProp 𝕄} {k : PUnit → Prog (TpuEff nD τ sig (Elt F) Λ₀ .tc) α}
    (h : iprop(P ∗ oPts X c (n + 1) ∗ R) ⊢ wpc c (k ⟨⟩) Q) :
    iprop(P ∗ oPts X c n ∗ R)
      ⊢ wpc c (.op (.store oM (Rect.unit (s := S4096x1024) off S128x1024.size inb) w Finset.univ hx hm) k) Q := by
  subst ho hw
  unfold oPts
  iintro ⟨HP, ⟨%f, %hf, Ho⟩, HR⟩
  iapply (wp_store 𝒱₀ (c : Thread nD τ) none Set.univ (m := oM) (r := blkR n) (Mk := Finset.univ) (Finset.subset_univ _)) $$ Ho
  iintro Ho
  iapply h
  isplitl [HP]; · iexact HP
  isplitl [Ho]
  · unfold oPts; iexists _; isplitr
    swap; · iexact Ho
    ipureintro; exact store_blk (X c) n hn f hf
  iexact HR

end Cert.KernelIdealRun

end
-- ==== Proof.KernelIdealRun.Parts.lean ====
/-
  The body's twenty-three printed parts, each run by the step lemmas: the signals and the row's transfers (parts 1-7), the
  thirty-two blocks of local prefix sums (parts 8-16; the seven middle parts are one program, `midProg`, at seven block
  numbers), the thirty waits and the final loads (parts 16-23).
-/
module

public import proofs.«01_k».proof.Proof.KernelIdealRun.Steps

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (X : Dev nD → (cc0_stg0_0 : Ref sig .tc).ty.Contents (Elt F)) (K : Dev nD × CI → ℕ) (c : Dev nD)
  (h0 : (xM : Memref sig .tc .vmem S4096x1024 .f32).IsWhole) (h1 : (oM : Memref sig .tc .vmem S4096x1024 .f32).IsWhole)
  (h2 : (tM : Memref sig .tc .vmem S16x1024 .f32).IsWhole)

/-! ## The states between the parts -/

/-- Before the signals to `ds`; -/
def sigSt (ds : List (Dev nD)) (R : sProp 𝕄) : sProp 𝕄 :=
  iprop(records X K ∗ acct c (owedSend c allK + owedBar ds) ∗ sepL (sigPre c) ds ∗ R)
/-- before the transfers `ks`, those in `done` started; -/
def sendSt (ks done : List (Fin 15)) (R : sProp 𝕄) : sProp 𝕄 :=
  iprop(records X K ∗ acct c (owedSend c ks) ∗ sepL (sendPre X c) ks ∗ sepL (sent c) done ∗ R)
/-- before the waits `is`, those in `done` over; -/
def waitSt (is done : List (Fin 15 ⊕ Fin 15)) (R : sProp 𝕄) : sProp 𝕄 :=
  iprop(records X K ∗ acct c 0 ∗ sepL (waitPre c) is ∗ sepL (waited X c) done ∗ R)
/-- `n` blocks of local prefix sums stored. -/
def locSt (n : ℕ) (R : sProp 𝕄) : sProp 𝕄 := iprop(xPts X c ∗ oPts X c n ∗ R)

/-- The device's position as the body computes it. -/
abbrev pos (c : Dev nD) : BitVec 32 := Scalar.remsi (Scalar.divsi (Dev.word c) 1#32) 16#32
/-- The barrier semaphore as the body names it. -/
abbrev barA : Sems sig S_ := SemArray.scalar (sig.barrier 0 rfl)

/-- The waits in program order. -/
abbrev allW : List (Fin 15 ⊕ Fin 15) :=
  [.inr 0, .inr 1, .inr 2, .inr 3, .inr 4, .inr 5, .inr 6, .inr 7, .inr 8, .inr 9, .inr 10, .inr 11, .inr 12, .inr 13, .inr 14,
    .inl 0, .inl 1, .inl 2, .inl 3, .inl 4, .inl 5, .inl 6, .inl 7, .inl 8, .inl 9, .inl 10, .inl 11, .inl 12, .inl 13, .inl 14]
theorem allW_univ : (Finset.univ : Finset (Fin 15 ⊕ Fin 15)) = allW.toFinset := by decide
theorem allW_nodup : allW.Nodup := by decide

/-- One member of a separating conjunction taken out. -/
theorem bigSep_at {I : Type} [DecidableEq I] {s : Finset I} {i : I} (h : i ∈ s) {Φ : I → sProp 𝕄} :
    bigSep s Φ = iprop(Φ i ∗ bigSep (s.erase i) Φ) := BI.bigSep_erase h

/-! ## The device's own row -/

theorem hz : (![0, 0] : Fin 2 → Nat) = fun _ => 0 := funext fun a => by fin_cases a <;> rfl

/-- Storing the column sums into the device's row makes the totals buffer agree with `totBuf` there. -/
theorem store_row (f : (cc0_scratch0 : Ref sig .tc).ty.Contents (Elt F)) (i : S16x1024.Idx) (hi : (i 0).val = c.val) :
    (tM.access (rowR c)).write (Elt F) f (k0_pay2 (X c)) Finset.univ i = totBuf X i := by
  have hw := View.write_emb_of_mem (v := tM.access (rowR c)) (Val := Elt F) f (k0_pay2 (X c)) (M := Finset.univ)
    (x := Shape.pair (d := ![1, 1024]) ⟨0, Nat.one_pos⟩ ⟨(i 1).val, (i 1).isLt⟩) (Finset.mem_univ _)
  have he : (tM.access (rowR c)).emb (Shape.pair (d := ![1, 1024]) ⟨0, Nat.one_pos⟩ ⟨(i 1).val, (i 1).isLt⟩) = i := by
    funext a; apply Fin.ext
    rcases a with ⟨_ | _ | m, ha⟩
    · show c.val + 1 * 0 = (i 0).val; omega
    · show 0 + 1 * (i 1).val = (i 1).val; omega
    · exact absurd ha (by show ¬ m + 1 + 1 < 2; omega)
  rw [he] at hw
  rw [hw]
  have hc : c = ⟨(i 0).val, (i 0).isLt⟩ := Fin.ext hi.symm
  show k0_pay2 (X c) _ = k0_pay2 (X ⟨(i 0).val, (i 0).isLt⟩) _
  rw [← hc]

/-- The totals buffer, its own row computed, is what the device hands out at the barrier and its own row. -/
theorem totals_split (f : (cc0_scratch0 : Ref sig .tc).ty.Contents (Elt F)) (hf : ∀ i : S16x1024.Idx, (i 0).val = c.val → f i = totBuf X i) :
    (((c : Thread nD τ).loc cc0_scratch0) ↦{fullShare} f : sProp 𝕄)
      ⊢ iprop(sepL (fun d => barPay d c) allDev ∗ rowPts c c fullShare (totBuf X)) := by
  rw [tot_rows, ← sepL_univ (fun d => barPay d c) allDev allDev_univ allDev_nodup, bigSep_at (Finset.mem_univ c),
    bigSep_at (Finset.mem_univ c) (Φ := fun d => barPay d c), rowPts_congr hf]
  iintro ⟨Hr, Ho⟩
  isplitr [Hr]
  · isplitr
    · unfold barPay; rw [if_pos rfl]; iempintro
    · iapply (show (bigSep (Finset.univ.erase c) fun r : Dev nD => rowPts c r fullShare f : sProp 𝕄)
          ⊢ bigSep (Finset.univ.erase c) fun d => barPay d c from bigSep_mono fun d hd => by
        unfold barPay; rw [if_neg (Finset.ne_of_mem_erase hd).symm]
        show rowPts c d fullShare f ⊢ iprop(∃ f, rowPts c d fullShare f)
        iintro H; iexists f; iexact H)
      iexact Ho
  · iexact Hr

/-- The shares a row is lent out in, one for each transfer, and the rest. -/
theorem row_shares :
    rowPts c c fullShare (totBuf X) ⊣⊢ iprop(rowPts c c (shareDrop fullShare 15) (totBuf X)
      ∗ sepL (fun k : Fin 15 => rowPts c c (shareTokN fullShare k.val) (totBuf X)) allK) := by
  have h := pointsTo_toks_range (Ix := Unit) (Val := Elt F) (Name := ℕ) (U := UU) (Lvl := ℕ) (ℓ := (rowM c).view.loc (c : Thread nD τ)) (S := (rowM c).view.set) (f := totBuf X) fullShare 15
  rw [show Finset.range 15 = (List.range 15).toFinset from by decide, sepL_eq _ _ (List.nodup_range)] at h
  exact h

/-! ## Lists of resources -/

theorem sepL_zip {α : Type} (Φ Ψ : α → sProp 𝕄) : ∀ l : List α, iprop(sepL Φ l ∗ sepL Ψ l) ⊢ sepL (fun a => iprop(Φ a ∗ Ψ a)) l
  | [] => by unfold sepL; iintro ⟨-, -⟩; iempintro
  | a :: l => by
    rw [sepL, sepL, sepL]
    iintro ⟨⟨Ha, Hl⟩, Hb, Hm⟩
    isplitl [Ha Hb]; · isplitl [Ha] <;> iassumption
    iapply (sepL_zip Φ Ψ l)
    isplitl [Hl] <;> iassumption

/-- What the barrier gives: a row of every other device, its target for one of the transfers. -/
theorem bar_rows : (bigSep Finset.univ (barPay (F := F) c) : sProp 𝕄) ⊢ sepL (fun k => iprop(∃ f, rowPts (tgt c k) c fullShare f)) allK := by
  rw [bigSep_at (Finset.mem_univ c), others_tgt, bigSep_map, ← sepL_univ _ allK allK_univ allK_nodup]
  iintro ⟨-, H⟩
  iapply (show (bigSep Finset.univ fun k : Fin 15 => barPay (F := F) c (tgt c k) : sProp 𝕄)
      ⊢ bigSep Finset.univ fun k => iprop(∃ f, rowPts (tgt c k) c fullShare f) from bigSep_mono fun k _ => by
    unfold barPay; rw [if_neg (tgt_ne c k)]; exact BI.Entails.refl _)
  iexact H

/-- The tokens of a transfer. -/
def sendTok (k : Fin 15) : sProp 𝕄 := iprop(dutyTok ER (sendCell c k) 0 0 ∗ dutyTok ER (recvCell (tgt c k) k) 0 0)

/-- What the device keeps for the barrier wait and the transfers. -/
def held (R : sProp 𝕄) : sProp 𝕄 :=
  iprop((atPos ER (barCell c) 0 ∅ 0 ∗ cred (tallyAt (barCell c) () 16)) ∗ sepL (sendTok c) allK
    ∗ rowPts c c fullShare (totBuf X) ∗ R)

/-- What remains after it, besides the transfers' needs. -/
def kept (R : sProp 𝕄) : sProp 𝕄 := iprop(semVal (barCell c) 0 ∗ rowPts c c (shareDrop fullShare 15) (totBuf X) ∗ R)

theorem barrier_sends (R : sProp 𝕄) :
    iprop(records X K ∗ acct c (owedSend c allK) ∗ (semVal (barCell c) 0 ∗ bigSep Finset.univ (barPay (F := F) c))
        ∗ (sepL (sendTok c) allK ∗ rowPts c c fullShare (totBuf X) ∗ R))
      ⊢ sendSt X K c allK [] (kept X c R) := by
  unfold sendSt kept
  iintro ⟨Hrec, HA, ⟨Hz, Hb⟩, Ht, Hr, HR⟩
  ihave Hb := (bar_rows c) $$ Hb
  ihave Hr := (row_shares X c).1 $$ Hr
  icases Hr with ⟨Hd, Hs⟩
  isplitl [Hrec]; · iexact Hrec
  isplitl [HA]; · iexact HA
  isplitl [Ht Hs Hb]
  · iapply (show (sepL (fun k => iprop(sendTok c k ∗ (rowPts c c (shareTokN fullShare k.val) (totBuf X) ∗ ∃ f, rowPts (tgt c k) c fullShare f))) allK : sProp 𝕄)
      ⊢ sepL (sendPre X c) allK from BI.Entails.refl _)
    iapply (sepL_zip (sendTok c) (fun k => iprop(rowPts c c (shareTokN fullShare k.val) (totBuf X) ∗ ∃ f, rowPts (tgt c k) c fullShare f)) allK)
    isplitl [Ht]; · iexact Ht
    iapply (sepL_zip (fun k : Fin 15 => rowPts c c (shareTokN fullShare k.val) (totBuf X)) (fun k => iprop(∃ f, rowPts (tgt c k) c fullShare f)) allK)
    isplitl [Hs] <;> iassumption
  isplitr; · unfold sepL; iempintro
  isplitl [Hz]; · iexact Hz
  isplitl [Hd] <;> iassumption

/-! ## The first steps: `x` loaded whole, the device's own row stored -/

theorem step_loadw {hl} {R : sProp 𝕄} {α : Type} {Q : α → sProp 𝕄} {k : Vec F S4096x1024 .f32 → Prog (TpuEff nD τ sig (Elt F) Λ₀ .tc) α}
    (h : iprop(xPts X c ∗ R) ⊢ wpc c (k (X c)) Q) :
    iprop(xPts X c ∗ R) ⊢ wpc c (.op (.load xM (Rect.unit (s := S4096x1024) ![0, 0] S4096x1024.size inb_S4096x1024_S4096x1024_0_0).toLoadRect hl) k) Q := by
  unfold xPts
  iintro ⟨Hx, HR⟩
  iapply (wp_load 𝒱₀ (c : Thread nD τ) none Set.univ (m := xM) (Finset.subset_univ _)) $$ Hx
  iintro Hx
  rw [show (xM : Memref sig .tc .vmem S4096x1024 .f32).view.readAt (Elt F) (Rect.unit (s := S4096x1024) ![0, 0] S4096x1024.size
    inb_S4096x1024_S4096x1024_0_0).toLoadRect (X c) = X c from Memref.readAt_unit_zero (Elt F) cc0_stg0_0 hz _ _]
  iapply h
  unfold xPts
  isplitl [Hx] <;> iassumption

/-- A load of the totals buffer whose result is not used. -/
theorem step_deadt {r : LoadRect S16x1024} {hl} {P R : sProp 𝕄} {α : Type} {Q : α → sProp 𝕄}
    {k : (r.shape.Idx → Elt F .f32) → Prog (TpuEff nD τ sig (Elt F) Λ₀ .tc) α}
    (h : ∀ v, iprop(P ∗ (∃ f, ((c : Thread nD τ).loc cc0_scratch0) ↦{fullShare} f) ∗ R) ⊢ wpc c (k v) Q) :
    iprop(P ∗ (∃ f, ((c : Thread nD τ).loc cc0_scratch0) ↦{fullShare} f) ∗ R) ⊢ wpc c (.op (.load tM r hl) k) Q := by
  iintro ⟨HP, ⟨%f, Ho⟩, HR⟩
  iapply (wp_load 𝒱₀ (c : Thread nD τ) none Set.univ (m := tM) (Finset.subset_univ _)) $$ Ho
  iintro Ho
  iapply (h _)
  isplitl [HP]; · iexact HP
  isplitl [Ho]; · iexists f; iexact Ho
  iexact HR

theorem step_storet {off : Fin 2 → ℕ} (ho : off = ![c.val, 0]) {inb : ∀ a, off a + S1x1024.size a ≤ S16x1024.size a}
    {w : FVec F S1x1024 .f32} (hw : w = k0_pay2 (X c)) {hx} {hm}
    {P R : sProp 𝕄} {α : Type} {Q : α → sProp 𝕄} {k : PUnit → Prog (TpuEff nD τ sig (Elt F) Λ₀ .tc) α}
    (h : iprop(P ∗ (sepL (fun d => barPay d c) allDev ∗ rowPts c c fullShare (totBuf X)) ∗ R) ⊢ wpc c (k ⟨⟩) Q) :
    iprop(P ∗ (∃ f, ((c : Thread nD τ).loc cc0_scratch0) ↦{fullShare} f) ∗ R)
      ⊢ wpc c (.op (.store tM (Rect.unit (s := S16x1024) off S1x1024.size inb) w Finset.univ hx hm) k) Q := by
  subst ho hw
  iintro ⟨HP, ⟨%f, Ho⟩, HR⟩
  iapply (wp_store 𝒱₀ (c : Thread nD τ) none Set.univ (m := tM) (r := rowR c) (Mk := Finset.univ) (Finset.subset_univ _)) $$ Ho
  iintro Ho
  iapply h
  isplitl [HP]; · iexact HP
  isplitl [Ho]; · iapply (totals_split X c _ (store_row X c f)); iexact Ho
  iexact HR

/-- What the device holds from the start besides its buffers. -/
def first (R : sProp 𝕄) : sProp 𝕄 :=
  iprop(records X K ∗ acct c (owedSend c allK + owedBar allDev) ∗ sepL (fun d => dutyTok ER (barCell d) 0 c) allDev
    ∗ (atPos ER (barCell c) 0 ∅ 0 ∗ cred (tallyAt (barCell c) () 16)) ∗ sepL (sendTok c) allK ∗ R)

theorem first_sig (R : sProp 𝕄) :
    iprop(xPts X c ∗ (sepL (fun d => barPay d c) allDev ∗ rowPts c c fullShare (totBuf X)) ∗ first X K c R)
      ⊢ sigSt X K c allDev (held X c (iprop(xPts X c ∗ R))) := by
  unfold first sigSt held
  iintro ⟨Hx, ⟨Hp, Hr⟩, Hrec, HA, Ht, Hb, Hs, HR⟩
  isplitl [Hrec]; · iexact Hrec
  isplitl [HA]; · iexact HA
  isplitl [Ht Hp]
  · iapply (show (sepL (fun d => iprop(dutyTok ER (barCell d) 0 c ∗ barPay d c)) allDev : sProp 𝕄) ⊢ sepL (sigPre c) allDev from BI.Entails.refl _)
    iapply (sepL_zip (fun d => dutyTok ER (barCell d) 0 c) (fun d => barPay d c) allDev)
    isplitl [Ht] <;> iassumption
  isplitl [Hb]; · iexact Hb
  isplitl [Hs]; · iexact Hs
  isplitl [Hr]; · iexact Hr
  isplitl [Hx] <;> iassumption

/-! ## Parts 1-3: the column sums, the signals, the barrier wait -/

set_option maxHeartbeats 1600000 in
theorem part1_wp (R : sProp 𝕄) :
    iprop(records X K ∗ acct c (owedSend c allK + owedBar allDev) ∗ sepL (fun d => dutyTok ER (barCell d) 0 c) allDev
        ∗ (∃ f, ((c : Thread nD τ).loc cc0_scratch0) ↦{fullShare} f)
        ∗ (atPos ER (barCell c) 0 ∅ 0 ∗ cred (tallyAt (barCell c) () 16)) ∗ sepL (sendTok c) allK ∗ xPts X c ∗ R)
      ⊢ wpc c (k0_part1 (F := F) xM h0 oM h1 tM h2 cc0_scratch1 cc0_scratch2)
          (rets ⟨c, pos c, barA, Scalar.muli 5#32 1#32, 0#32⟩ (sigSt X K c [5, 6, 7, 8, 9, 10, 11, 12, 13, 14, 15] (held X c (iprop(xPts X c ∗ R))))) := by
  rw [k0_part1_eq_skeleton]; unfold k0_part1_skel
  simp only [semSignalWord, semWaitWord, Prog.lift, Prog.bind_op, Prog.bind_ret, Prog.pure_eq_ret, wp_deviceId]
  refine (show _ ⊢ iprop(xPts X c ∗ (∃ f, ((c : Thread nD τ).loc cc0_scratch0) ↦{fullShare} f) ∗ first X K c R) from ?_).trans ?_
  · unfold first
    iintro ⟨Hrec, HA, Ht, Hf, Hb, Hs, Hx, HR⟩
    isplitl [Hx]; · iexact Hx
    isplitl [Hf]; · iexact Hf
    isplitl [Hrec]; · iexact Hrec
    isplitl [HA]; · iexact HA
    isplitl [Ht]; · iexact Ht
    isplitl [Hb]; · iexact Hb
    isplitl [Hs] <;> iassumption
  refine step_loadw X c ?_
  refine step_deadt c (fun _ => ?_)
  refine step_storet X c (k0_off1_eq c) rfl ?_
  refine (first_sig X K c R).trans ?_
  unfold sigSt
  refine step_sig X K c 0 (Fin.ext k0_dev1_eq) rfl (by decide) ?_
  refine step_sig X K c 1 (Fin.ext k0_dev2_eq) rfl (by decide) ?_
  refine step_sig X K c 2 (Fin.ext k0_dev3_eq) rfl (by decide) ?_
  refine step_sig X K c 3 (Fin.ext k0_dev4_eq) rfl (by decide) ?_
  refine step_sig X K c 4 (Fin.ext k0_dev5_eq) rfl (by decide) ?_
  exact ret_step c _

theorem part2_wp (R : sProp 𝕄) :
    sigSt X K c [5, 6, 7, 8, 9, 10, 11, 12, 13, 14, 15] R ⊢ wpc c (k0_part2 (F := F) xM h0 oM h1 tM h2 cc0_scratch1 cc0_scratch2 barA (Scalar.muli 5#32 1#32) 0#32)
      (rets 14#32 (sigSt X K c [14, 15] R)) := by
  rw [k0_part2_eq_skeleton]; unfold k0_part2_skel
  simp only [semSignalWord, semWaitWord, Prog.lift, Prog.bind_op, Prog.bind_ret, Prog.pure_eq_ret, wp_deviceId]
  refine step_sig X K c 5 (Fin.ext k0_dev6_eq) rfl (by decide) ?_
  refine step_sig X K c 6 (Fin.ext k0_dev7_eq) rfl (by decide) ?_
  refine step_sig X K c 7 (Fin.ext k0_dev8_eq) rfl (by decide) ?_
  refine step_sig X K c 8 (Fin.ext k0_dev9_eq) rfl (by decide) ?_
  refine step_sig X K c 9 (Fin.ext k0_dev10_eq) rfl (by decide) ?_
  refine step_sig X K c 10 (Fin.ext k0_dev11_eq) rfl (by decide) ?_
  refine step_sig X K c 11 (Fin.ext k0_dev12_eq) rfl (by decide) ?_
  refine step_sig X K c 12 (Fin.ext k0_dev13_eq) rfl (by decide) ?_
  refine step_sig X K c 13 (Fin.ext k0_dev14_eq) rfl (by decide) ?_
  exact ret_step c _

theorem part3_wp (R : sProp 𝕄) :
    sigSt X K c [14, 15] (held X c R) ⊢ wpc c (k0_part3 (F := F) xM h0 oM h1 tM h2 cc0_scratch1 cc0_scratch2 c (pos c) barA 14#32)
      (rets ⟨Scalar.remsi (Scalar.addi (pos c) 3#32) 16#32, 1#32⟩ (sendSt X K c [2, 3, 4, 5, 6, 7, 8, 9, 10, 11, 12, 13, 14] [1, 0] (kept X c R))) := by
  rw [k0_part3_eq_skeleton]; unfold k0_part3_skel
  simp only [semSignalWord, semWaitWord, Prog.lift, Prog.bind_op, Prog.bind_ret, Prog.pure_eq_ret, wp_deviceId]
  refine step_sig X K c 14 (Fin.ext k0_dev15_eq) rfl (by decide) ?_
  refine step_sig X K c 15 (Fin.ext k0_dev16_eq) rfl (by decide) ?_
  refine (show _ ⊢ iprop(records X K ∗ acct c (owedSend c allK + owedBar [])
      ∗ (atPos ER (barCell c) 0 ∅ 0 ∗ cred (tallyAt (barCell c) () 16)) ∗ (sepL (sendTok c) allK ∗ rowPts c c fullShare (totBuf X) ∗ R)) from ?_).trans ?_
  · unfold held
    iintro ⟨Hrec, HA, -, Hb, HR⟩
    isplitl [Hrec]; · iexact Hrec
    isplitl [HA]; · iexact HA
    isplitl [Hb] <;> iassumption
  refine step_bar X K c rfl (by decide) ?_
  refine (barrier_sends X K c R).trans ?_
  unfold sendSt
  refine step_send X K c 0 (Fin.ext (k0_dev17_eq c)) rfl rfl (k0_off2_eq c) (k0_off2_eq c) ?_
  refine step_send X K c 1 (Fin.ext (k0_dev18_eq c)) rfl rfl (k0_off2_eq c) (k0_off2_eq c) ?_
  exact ret_step c _

/-! ## Parts 4-7: the transfers -/

theorem part4_wp (R : sProp 𝕄) :
    sendSt X K c [2, 3, 4, 5, 6, 7, 8, 9, 10, 11, 12, 13, 14] [1, 0] R ⊢ wpc c (k0_part4 (F := F) xM h0 oM h1 tM h2 cc0_scratch1 cc0_scratch2 c (pos c) (Scalar.remsi (Scalar.addi (pos c) 3#32) 16#32) 1#32)
      (rets ⟨⟩ (sendSt X K c [5, 6, 7, 8, 9, 10, 11, 12, 13, 14] [4, 3, 2, 1, 0] R)) := by
  rw [k0_part4_eq_skeleton]; unfold k0_part4_skel sendSt
  simp only [semSignalWord, semWaitWord, Prog.lift, Prog.bind_op, Prog.bind_ret, Prog.pure_eq_ret, wp_deviceId]
  refine step_send X K c 2 (Fin.ext (k0_dev19_eq c)) rfl rfl (k0_off2_eq c) (k0_off2_eq c) ?_
  refine step_send X K c 3 (Fin.ext (k0_dev20_eq c)) rfl rfl (k0_off2_eq c) (k0_off2_eq c) ?_
  refine step_send X K c 4 (Fin.ext (k0_dev21_eq c)) rfl rfl (k0_off2_eq c) (k0_off2_eq c) ?_
  exact ret_step c _

theorem part5_wp (R : sProp 𝕄) :
    sendSt X K c [5, 6, 7, 8, 9, 10, 11, 12, 13, 14] [4, 3, 2, 1, 0] R ⊢ wpc c (k0_part5 (F := F) xM h0 oM h1 tM h2 cc0_scratch1 cc0_scratch2 c (pos c))
      (rets ⟨⟩ (sendSt X K c [8, 9, 10, 11, 12, 13, 14] [7, 6, 5, 4, 3, 2, 1, 0] R)) := by
  rw [k0_part5_eq_skeleton]; unfold k0_part5_skel sendSt
  simp only [semSignalWord, semWaitWord, Prog.lift, Prog.bind_op, Prog.bind_ret, Prog.pure_eq_ret, wp_deviceId]
  refine step_send X K c 5 (Fin.ext (k0_dev22_eq c)) rfl rfl (k0_off2_eq c) (k0_off2_eq c) ?_
  refine step_send X K c 6 (Fin.ext (k0_dev23_eq c)) rfl rfl (k0_off2_eq c) (k0_off2_eq c) ?_
  refine step_send X K c 7 (Fin.ext (k0_dev24_eq c)) rfl rfl (k0_off2_eq c) (k0_off2_eq c) ?_
  exact ret_step c _

theorem part6_wp (R : sProp 𝕄) :
    sendSt X K c [8, 9, 10, 11, 12, 13, 14] [7, 6, 5, 4, 3, 2, 1, 0] R ⊢ wpc c (k0_part6 (F := F) xM h0 oM h1 tM h2 cc0_scratch1 cc0_scratch2 c (pos c))
      (rets ⟨⟩ (sendSt X K c [11, 12, 13, 14] [10, 9, 8, 7, 6, 5, 4, 3, 2, 1, 0] R)) := by
  rw [k0_part6_eq_skeleton]; unfold k0_part6_skel sendSt
  simp only [semSignalWord, semWaitWord, Prog.lift, Prog.bind_op, Prog.bind_ret, Prog.pure_eq_ret, wp_deviceId]
  refine step_send X K c 8 (Fin.ext (k0_dev25_eq c)) rfl rfl (k0_off2_eq c) (k0_off2_eq c) ?_
  refine step_send X K c 9 (Fin.ext (k0_dev26_eq c)) rfl rfl (k0_off2_eq c) (k0_off2_eq c) ?_
  refine step_send X K c 10 (Fin.ext (k0_dev27_eq c)) rfl rfl (k0_off2_eq c) (k0_off2_eq c) ?_
  exact ret_step c _

theorem part7_wp (R : sProp 𝕄) :
    sendSt X K c [11, 12, 13, 14] [10, 9, 8, 7, 6, 5, 4, 3, 2, 1, 0] R ⊢ wpc c (k0_part7 (F := F) xM h0 oM h1 tM h2 cc0_scratch1 cc0_scratch2 c (pos c))
      (rets ⟨⟩ (sendSt X K c [] [14, 13, 12, 11, 10, 9, 8, 7, 6, 5, 4, 3, 2, 1, 0] R)) := by
  rw [k0_part7_eq_skeleton]; unfold k0_part7_skel sendSt
  simp only [semSignalWord, semWaitWord, Prog.lift, Prog.bind_op, Prog.bind_ret, Prog.pure_eq_ret, wp_deviceId]
  refine step_send X K c 11 (Fin.ext (k0_dev28_eq c)) rfl rfl (k0_off2_eq c) (k0_off2_eq c) ?_
  refine step_send X K c 12 (Fin.ext (k0_dev29_eq c)) rfl rfl (k0_off2_eq c) (k0_off2_eq c) ?_
  refine step_send X K c 13 (Fin.ext (k0_dev30_eq c)) rfl rfl (k0_off2_eq c) (k0_off2_eq c) ?_
  refine step_send X K c 14 (Fin.ext (k0_dev31_eq c)) rfl rfl (k0_off2_eq c) (k0_off2_eq c) ?_
  exact ret_step c _

/-! ## Parts 8-16: the local prefix sums -/

theorem part8_wp (R : sProp 𝕄) :
    locSt X c 0 R ⊢ wpc c (k0_part8 (F := F) xM h0 oM h1 tM h2 cc0_scratch1 cc0_scratch2)
      (rets ⟨k0_pay3, running (X c) 3, within (X c) 3⟩ (locSt X c 3 R)) := by
  rw [k0_part8_eq_skeleton]; unfold k0_part8_skel locSt
  simp only [semSignalWord, semWaitWord, Prog.lift, Prog.bind_op, Prog.bind_ret, Prog.pure_eq_ret, wp_deviceId]
  refine step_loadx X c 0 rfl ?_
  refine step_deado X c (fun _ => ?_)
  refine step_storeo X c 0 (by decide) rfl rfl ?_
  refine step_loadx X c 1 rfl ?_
  refine step_deado X c (fun _ => ?_)
  refine step_storeo X c 1 (by decide) rfl rfl ?_
  refine step_loadx X c 2 rfl ?_
  refine step_deado X c (fun _ => ?_)
  refine step_storeo X c 2 (by decide) rfl rfl ?_
  refine step_loadx X c 3 rfl ?_
  exact ret_step c _

/-- One middle part: the store of block `n`, three blocks whole, the load of block `n + 4`. -/
def midProg (n : ℕ) (w : FVec F S128x128 .bf16) (run : FVec F S1x1024 .f32) (wit : FVec F S128x1024 .f32) :
    Prog (TpuEff nD τ sig (Elt F) Λ₀ .tc) (Σ' (_ : FVec F S1x1024 .f32), FVec F S128x1024 .f32) := do
  let _ ← Prog.lift (.load oM (blkR n).toLoadRect (View.loadsAt_vmem h_S128x1024))
  Prog.lift (.store oM (blkR n) (k0_pay15 run wit) Finset.univ (View.stores_vmem_bits_univ h_S128x1024 rfl) (.inl rfl))
  let v1 : Vec F S128x1024 .f32 ← Prog.lift (.load xM (blkR (n + 1)).toLoadRect (View.loadsAt_vmem h_S128x1024))
  let _ ← Prog.lift (.load oM (blkR (n + 1)).toLoadRect (View.loadsAt_vmem h_S128x1024))
  Prog.lift (.store oM (blkR (n + 1)) (k0_pay18 w run wit v1) Finset.univ (View.stores_vmem_bits_univ h_S128x1024 rfl) (.inl rfl))
  let v2 : Vec F S128x1024 .f32 ← Prog.lift (.load xM (blkR (n + 2)).toLoadRect (View.loadsAt_vmem h_S128x1024))
  let _ ← Prog.lift (.load oM (blkR (n + 2)).toLoadRect (View.loadsAt_vmem h_S128x1024))
  Prog.lift (.store oM (blkR (n + 2)) (k0_pay21 w run wit v1 v2) Finset.univ (View.stores_vmem_bits_univ h_S128x1024 rfl) (.inl rfl))
  let v3 : Vec F S128x1024 .f32 ← Prog.lift (.load xM (blkR (n + 3)).toLoadRect (View.loadsAt_vmem h_S128x1024))
  let _ ← Prog.lift (.load oM (blkR (n + 3)).toLoadRect (View.loadsAt_vmem h_S128x1024))
  Prog.lift (.store oM (blkR (n + 3)) (k0_pay24 w run wit v1 v2 v3) Finset.univ (View.stores_vmem_bits_univ h_S128x1024 rfl) (.inl rfl))
  let v4 : Vec F S128x1024 .f32 ← Prog.lift (.load xM (blkR (n + 4)).toLoadRect (View.loadsAt_vmem h_S128x1024))
  pure ⟨k0_pay25 w run wit v1 v2 v3, k0_pay26 w v4⟩

theorem mid_wp (n : ℕ) (hn : n + 4 < 32) (R : sProp 𝕄) :
    locSt X c n R ⊢ wpc c (midProg n k0_pay3 (running (X c) n) (within (X c) n))
      (rets ⟨running (X c) (n + 4), within (X c) (n + 4)⟩ (locSt X c (n + 4) R)) := by
  unfold midProg locSt
  simp only [semSignalWord, semWaitWord, Prog.lift, Prog.bind_op, Prog.bind_ret, Prog.pure_eq_ret, wp_deviceId]
  refine step_deado X c (fun _ => ?_)
  refine step_storeo X c n (by omega) rfl rfl ?_
  refine step_loadx X c (n + 1) rfl ?_
  refine step_deado X c (fun _ => ?_)
  refine step_storeo X c (n + 1) (by omega) rfl rfl ?_
  refine step_loadx X c (n + 2) rfl ?_
  refine step_deado X c (fun _ => ?_)
  refine step_storeo X c (n + 2) (by omega) rfl rfl ?_
  refine step_loadx X c (n + 3) rfl ?_
  refine step_deado X c (fun _ => ?_)
  refine step_storeo X c (n + 3) (by omega) rfl rfl ?_
  refine step_loadx X c (n + 4) rfl ?_
  exact ret_step c _

theorem part9_eq (w run wit) : k0_part9 (F := F) xM h0 oM h1 tM h2 cc0_scratch1 cc0_scratch2 w run wit = midProg 3 w run wit := by
  rw [k0_part9_eq_skeleton]; rfl
theorem part9_wp (R : sProp 𝕄) : locSt X c 3 R ⊢ wpc c (k0_part9 (F := F) xM h0 oM h1 tM h2 cc0_scratch1 cc0_scratch2 k0_pay3 (running (X c) 3) (within (X c) 3))
    (rets ⟨running (X c) 7, within (X c) 7⟩ (locSt X c 7 R)) := by
  rw [part9_eq]; exact mid_wp X c 3 (by decide) R
theorem part10_eq (w run wit) : k0_part10 (F := F) xM h0 oM h1 tM h2 cc0_scratch1 cc0_scratch2 w run wit = midProg 7 w run wit := by
  rw [k0_part10_eq_skeleton]; rfl
theorem part10_wp (R : sProp 𝕄) : locSt X c 7 R ⊢ wpc c (k0_part10 (F := F) xM h0 oM h1 tM h2 cc0_scratch1 cc0_scratch2 k0_pay3 (running (X c) 7) (within (X c) 7))
    (rets ⟨running (X c) 11, within (X c) 11⟩ (locSt X c 11 R)) := by
  rw [part10_eq]; exact mid_wp X c 7 (by decide) R
theorem part11_eq (w run wit) : k0_part11 (F := F) xM h0 oM h1 tM h2 cc0_scratch1 cc0_scratch2 w run wit = midProg 11 w run wit := by
  rw [k0_part11_eq_skeleton]; rfl
theorem part11_wp (R : sProp 𝕄) : locSt X c 11 R ⊢ wpc c (k0_part11 (F := F) xM h0 oM h1 tM h2 cc0_scratch1 cc0_scratch2 k0_pay3 (running (X c) 11) (within (X c) 11))
    (rets ⟨running (X c) 15, within (X c) 15⟩ (locSt X c 15 R)) := by
  rw [part11_eq]; exact mid_wp X c 11 (by decide) R
theorem part12_eq (w run wit) : k0_part12 (F := F) xM h0 oM h1 tM h2 cc0_scratch1 cc0_scratch2 w run wit = midProg 15 w run wit := by
  rw [k0_part12_eq_skeleton]; rfl
theorem part12_wp (R : sProp 𝕄) : locSt X c 15 R ⊢ wpc c (k0_part12 (F := F) xM h0 oM h1 tM h2 cc0_scratch1 cc0_scratch2 k0_pay3 (running (X c) 15) (within (X c) 15))
    (rets ⟨running (X c) 19, within (X c) 19⟩ (locSt X c 19 R)) := by
  rw [part12_eq]; exact mid_wp X c 15 (by decide) R
theorem part13_eq (w run wit) : k0_part13 (F := F) xM h0 oM h1 tM h2 cc0_scratch1 cc0_scratch2 w run wit = midProg 19 w run wit := by
  rw [k0_part13_eq_skeleton]; rfl
theorem part13_wp (R : sProp 𝕄) : locSt X c 19 R ⊢ wpc c (k0_part13 (F := F) xM h0 oM h1 tM h2 cc0_scratch1 cc0_scratch2 k0_pay3 (running (X c) 19) (within (X c) 19))
    (rets ⟨running (X c) 23, within (X c) 23⟩ (locSt X c 23 R)) := by
  rw [part13_eq]; exact mid_wp X c 19 (by decide) R
theorem part14_eq (w run wit) : k0_part14 (F := F) xM h0 oM h1 tM h2 cc0_scratch1 cc0_scratch2 w run wit = midProg 23 w run wit := by
  rw [k0_part14_eq_skeleton]; rfl
theorem part14_wp (R : sProp 𝕄) : locSt X c 23 R ⊢ wpc c (k0_part14 (F := F) xM h0 oM h1 tM h2 cc0_scratch1 cc0_scratch2 k0_pay3 (running (X c) 23) (within (X c) 23))
    (rets ⟨running (X c) 27, within (X c) 27⟩ (locSt X c 27 R)) := by
  rw [part14_eq]; exact mid_wp X c 23 (by decide) R
theorem part15_eq (w run wit) : k0_part15 (F := F) xM h0 oM h1 tM h2 cc0_scratch1 cc0_scratch2 w run wit = midProg 27 w run wit := by
  rw [k0_part15_eq_skeleton]; rfl
theorem part15_wp (R : sProp 𝕄) : locSt X c 27 R ⊢ wpc c (k0_part15 (F := F) xM h0 oM h1 tM h2 cc0_scratch1 cc0_scratch2 k0_pay3 (running (X c) 27) (within (X c) 27))
    (rets ⟨running (X c) 31, within (X c) 31⟩ (locSt X c 31 R)) := by
  rw [part15_eq]; exact mid_wp X c 27 (by decide) R

/-- From the local sums to the waits: the buffers become the frame. -/
theorem loc_wait (is done : List (Fin 15 ⊕ Fin 15)) (n : ℕ) (R : sProp 𝕄) :
    locSt X c n (waitSt X K c is done R) ⊢ waitSt X K c is done (locSt X c n R) := by
  unfold locSt waitSt
  iintro ⟨Hx, Ho, Hrec, HA, Hp, Hd, HR⟩
  isplitl [Hrec]; · iexact Hrec
  isplitl [HA]; · iexact HA
  isplitl [Hp]; · iexact Hp
  isplitl [Hd]; · iexact Hd
  isplitl [Hx]; · iexact Hx
  isplitl [Ho] <;> iassumption

theorem part16_wp (R : sProp 𝕄) :
    locSt X c 31 (waitSt X K c allW [] R) ⊢ wpc c (k0_part16 (F := F) xM h0 oM h1 tM h2 cc0_scratch1 cc0_scratch2 c (pos c) (running (X c) 31) (within (X c) 31))
      (rets ⟨⟩ (waitSt X K c [.inr 2, .inr 3, .inr 4, .inr 5, .inr 6, .inr 7, .inr 8, .inr 9, .inr 10, .inr 11, .inr 12, .inr 13, .inr 14, .inl 0, .inl 1, .inl 2, .inl 3, .inl 4, .inl 5, .inl 6, .inl 7, .inl 8, .inl 9, .inl 10, .inl 11, .inl 12, .inl 13, .inl 14] [.inr 1, .inr 0] (locSt X c 32 R))) := by
  rw [k0_part16_eq_skeleton]; unfold k0_part16_skel
  simp only [semSignalWord, semWaitWord, Prog.lift, Prog.bind_op, Prog.bind_ret, Prog.pure_eq_ret, wp_deviceId]
  refine step_deado X c (fun _ => ?_)
  refine step_storeo X c 31 (by decide) rfl rfl ?_
  refine (loc_wait X K c allW [] 32 R).trans ?_
  refine step_wait X K c (.inr 0) (by rfl) (by rfl) ?_
  refine step_wait X K c (.inr 1) (by rfl) (by rfl) ?_
  exact ret_step c _

/-! ## Parts 17-22: the waits -/

theorem part17_wp (R : sProp 𝕄) :
    waitSt X K c [.inr 2, .inr 3, .inr 4, .inr 5, .inr 6, .inr 7, .inr 8, .inr 9, .inr 10, .inr 11, .inr 12, .inr 13, .inr 14, .inl 0, .inl 1, .inl 2, .inl 3, .inl 4, .inl 5, .inl 6, .inl 7, .inl 8, .inl 9, .inl 10, .inl 11, .inl 12, .inl 13, .inl 14] [.inr 1, .inr 0] R ⊢ wpc c (k0_part17 (F := F) xM h0 oM h1 tM h2 cc0_scratch1 cc0_scratch2 c (pos c))
      (rets ⟨⟩ (waitSt X K c [.inr 6, .inr 7, .inr 8, .inr 9, .inr 10, .inr 11, .inr 12, .inr 13, .inr 14, .inl 0, .inl 1, .inl 2, .inl 3, .inl 4, .inl 5, .inl 6, .inl 7, .inl 8, .inl 9, .inl 10, .inl 11, .inl 12, .inl 13, .inl 14] [.inr 5, .inr 4, .inr 3, .inr 2, .inr 1, .inr 0] R)) := by
  rw [k0_part17_eq_skeleton]; unfold k0_part17_skel waitSt
  simp only [semSignalWord, semWaitWord, Prog.lift, Prog.bind_op, Prog.bind_ret, Prog.pure_eq_ret, wp_deviceId]
  refine step_wait X K c (.inr 2) (by rfl) (by rfl) ?_
  refine step_wait X K c (.inr 3) (by rfl) (by rfl) ?_
  refine step_wait X K c (.inr 4) (by rfl) (by rfl) ?_
  refine step_wait X K c (.inr 5) (by rfl) (by rfl) ?_
  exact ret_step c _

theorem part18_wp (R : sProp 𝕄) : ∃ v,
    waitSt X K c [.inr 6, .inr 7, .inr 8, .inr 9, .inr 10, .inr 11, .inr 12, .inr 13, .inr 14, .inl 0, .inl 1, .inl 2, .inl 3, .inl 4, .inl 5, .inl 6, .inl 7, .inl 8, .inl 9, .inl 10, .inl 11, .inl 12, .inl 13, .inl 14] [.inr 5, .inr 4, .inr 3, .inr 2, .inr 1, .inr 0] R ⊢ wpc c (k0_part18 (F := F) xM h0 oM h1 tM h2 cc0_scratch1 cc0_scratch2 c (pos c))
      (rets v (waitSt X K c [.inr 9, .inr 10, .inr 11, .inr 12, .inr 13, .inr 14, .inl 0, .inl 1, .inl 2, .inl 3, .inl 4, .inl 5, .inl 6, .inl 7, .inl 8, .inl 9, .inl 10, .inl 11, .inl 12, .inl 13, .inl 14] [.inr 8, .inr 7, .inr 6, .inr 5, .inr 4, .inr 3, .inr 2, .inr 1, .inr 0] R)) := by
  rw [k0_part18_eq_skeleton]; unfold k0_part18_skel waitSt
  simp only [semSignalWord, semWaitWord, Prog.lift, Prog.bind_op, Prog.bind_ret, Prog.pure_eq_ret, wp_deviceId]
  apply Exists.intro
  refine step_wait X K c (.inr 6) (by rfl) (by rfl) ?_
  refine step_wait X K c (.inr 7) (by rfl) (by rfl) ?_
  refine step_wait X K c (.inr 8) (by rfl) (by rfl) ?_
  exact ret_step c _

theorem part19_wp (v568 w : BitVec 32) (R : sProp 𝕄) : ∃ v,
    waitSt X K c [.inr 9, .inr 10, .inr 11, .inr 12, .inr 13, .inr 14, .inl 0, .inl 1, .inl 2, .inl 3, .inl 4, .inl 5, .inl 6, .inl 7, .inl 8, .inl 9, .inl 10, .inl 11, .inl 12, .inl 13, .inl 14] [.inr 8, .inr 7, .inr 6, .inr 5, .inr 4, .inr 3, .inr 2, .inr 1, .inr 0] R ⊢ wpc c (k0_part19 (F := F) xM h0 oM h1 tM h2 cc0_scratch1 cc0_scratch2 c (pos c) v568 w)
      (rets v (waitSt X K c [.inr 12, .inr 13, .inr 14, .inl 0, .inl 1, .inl 2, .inl 3, .inl 4, .inl 5, .inl 6, .inl 7, .inl 8, .inl 9, .inl 10, .inl 11, .inl 12, .inl 13, .inl 14] [.inr 11, .inr 10, .inr 9, .inr 8, .inr 7, .inr 6, .inr 5, .inr 4, .inr 3, .inr 2, .inr 1, .inr 0] R)) := by
  rw [k0_part19_eq_skeleton]; unfold k0_part19_skel waitSt
  simp only [semSignalWord, semWaitWord, Prog.lift, Prog.bind_op, Prog.bind_ret, Prog.pure_eq_ret, wp_deviceId]
  apply Exists.intro
  refine step_wait X K c (.inr 9) (by rfl) (by rfl) ?_
  refine step_wait X K c (.inr 10) (by rfl) (by rfl) ?_
  refine step_wait X K c (.inr 11) (by rfl) (by rfl) ?_
  exact ret_step c _

theorem part20_wp (v597 : BitVec 32) (R : sProp 𝕄) :
    waitSt X K c [.inr 12, .inr 13, .inr 14, .inl 0, .inl 1, .inl 2, .inl 3, .inl 4, .inl 5, .inl 6, .inl 7, .inl 8, .inl 9, .inl 10, .inl 11, .inl 12, .inl 13, .inl 14] [.inr 11, .inr 10, .inr 9, .inr 8, .inr 7, .inr 6, .inr 5, .inr 4, .inr 3, .inr 2, .inr 1, .inr 0] R ⊢ wpc c (k0_part20 (F := F) xM h0 oM h1 tM h2 cc0_scratch1 cc0_scratch2 c (pos c) v597)
      (rets ⟨⟩ (waitSt X K c [.inl 0, .inl 1, .inl 2, .inl 3, .inl 4, .inl 5, .inl 6, .inl 7, .inl 8, .inl 9, .inl 10, .inl 11, .inl 12, .inl 13, .inl 14] [.inr 14, .inr 13, .inr 12, .inr 11, .inr 10, .inr 9, .inr 8, .inr 7, .inr 6, .inr 5, .inr 4, .inr 3, .inr 2, .inr 1, .inr 0] R)) := by
  rw [k0_part20_eq_skeleton]; unfold k0_part20_skel waitSt
  simp only [semSignalWord, semWaitWord, Prog.lift, Prog.bind_op, Prog.bind_ret, Prog.pure_eq_ret, wp_deviceId]
  refine step_wait X K c (.inr 12) (by rfl) (by rfl) ?_
  refine step_wait X K c (.inr 13) (by rfl) (by rfl) ?_
  refine step_wait X K c (.inr 14) (by rfl) (by rfl) ?_
  exact ret_step c _

theorem part21_wp (R : sProp 𝕄) :
    waitSt X K c [.inl 0, .inl 1, .inl 2, .inl 3, .inl 4, .inl 5, .inl 6, .inl 7, .inl 8, .inl 9, .inl 10, .inl 11, .inl 12, .inl 13, .inl 14] [.inr 14, .inr 13, .inr 12, .inr 11, .inr 10, .inr 9, .inr 8, .inr 7, .inr 6, .inr 5, .inr 4, .inr 3, .inr 2, .inr 1, .inr 0] R ⊢ wpc c (k0_part21 (F := F) xM h0 oM h1 tM h2 cc0_scratch1 cc0_scratch2 c )
      (rets ⟨⟩ (waitSt X K c [.inl 6, .inl 7, .inl 8, .inl 9, .inl 10, .inl 11, .inl 12, .inl 13, .inl 14] [.inl 5, .inl 4, .inl 3, .inl 2, .inl 1, .inl 0, .inr 14, .inr 13, .inr 12, .inr 11, .inr 10, .inr 9, .inr 8, .inr 7, .inr 6, .inr 5, .inr 4, .inr 3, .inr 2, .inr 1, .inr 0] R)) := by
  rw [k0_part21_eq_skeleton]; unfold k0_part21_skel waitSt
  simp only [semSignalWord, semWaitWord, Prog.lift, Prog.bind_op, Prog.bind_ret, Prog.pure_eq_ret, wp_deviceId]
  refine step_wait X K c (.inl 0) (by rfl) (by rfl) ?_
  refine step_wait X K c (.inl 1) (by rfl) (by rfl) ?_
  refine step_wait X K c (.inl 2) (by rfl) (by rfl) ?_
  refine step_wait X K c (.inl 3) (by rfl) (by rfl) ?_
  refine step_wait X K c (.inl 4) (by rfl) (by rfl) ?_
  refine step_wait X K c (.inl 5) (by rfl) (by rfl) ?_
  exact ret_step c _

theorem part22_wp (R : sProp 𝕄) :
    waitSt X K c [.inl 6, .inl 7, .inl 8, .inl 9, .inl 10, .inl 11, .inl 12, .inl 13, .inl 14] [.inl 5, .inl 4, .inl 3, .inl 2, .inl 1, .inl 0, .inr 14, .inr 13, .inr 12, .inr 11, .inr 10, .inr 9, .inr 8, .inr 7, .inr 6, .inr 5, .inr 4, .inr 3, .inr 2, .inr 1, .inr 0] R ⊢ wpc c (k0_part22 (F := F) xM h0 oM h1 tM h2 cc0_scratch1 cc0_scratch2 c )
      (rets ⟨⟩ (waitSt X K c [.inl 12, .inl 13, .inl 14] [.inl 11, .inl 10, .inl 9, .inl 8, .inl 7, .inl 6, .inl 5, .inl 4, .inl 3, .inl 2, .inl 1, .inl 0, .inr 14, .inr 13, .inr 12, .inr 11, .inr 10, .inr 9, .inr 8, .inr 7, .inr 6, .inr 5, .inr 4, .inr 3, .inr 2, .inr 1, .inr 0] R)) := by
  rw [k0_part22_eq_skeleton]; unfold k0_part22_skel waitSt
  simp only [semSignalWord, semWaitWord, Prog.lift, Prog.bind_op, Prog.bind_ret, Prog.pure_eq_ret, wp_deviceId]
  refine step_wait X K c (.inl 6) (by rfl) (by rfl) ?_
  refine step_wait X K c (.inl 7) (by rfl) (by rfl) ?_
  refine step_wait X K c (.inl 8) (by rfl) (by rfl) ?_
  refine step_wait X K c (.inl 9) (by rfl) (by rfl) ?_
  refine step_wait X K c (.inl 10) (by rfl) (by rfl) ?_
  refine step_wait X K c (.inl 11) (by rfl) (by rfl) ?_
  exact ret_step c _

end Cert.KernelIdealRun

end
-- ==== Proof.KernelIdealRun.Body.lean ====
/-
  The body whole, on a symbolic device: the parts in order, what they share in between, and the assertion the body ends in.
-/
module

public import proofs.«01_k».proof.Proof.KernelIdealRun.Parts

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (X : Dev nD → (cc0_stg0_0 : Ref sig .tc).ty.Contents (Elt F)) (K : Dev nD × CI → ℕ) (c : Dev nD)
  (h0 : (xM : Memref sig .tc .vmem S4096x1024 .f32).IsWhole) (h1 : (oM : Memref sig .tc .vmem S4096x1024 .f32).IsWhole)
  (h2 : (tM : Memref sig .tc .vmem S16x1024 .f32).IsWhole)

/-- The transfers and the waits in the order they are listed once done. -/
abbrev doneK : List (Fin 15) := [14, 13, 12, 11, 10, 9, 8, 7, 6, 5, 4, 3, 2, 1, 0]
theorem doneK_univ : (Finset.univ : Finset (Fin 15)) = doneK.toFinset := by decide
theorem doneK_nodup : doneK.Nodup := by decide
abbrev doneW : List (Fin 15 ⊕ Fin 15) := [.inl 14, .inl 13, .inl 12, .inl 11, .inl 10, .inl 9, .inl 8, .inl 7, .inl 6, .inl 5, .inl 4, .inl 3, .inl 2, .inl 1, .inl 0, .inr 14, .inr 13, .inr 12, .inr 11, .inr 10, .inr 9, .inr 8, .inr 7, .inr 6, .inr 5, .inr 4, .inr 3, .inr 2, .inr 1, .inr 0]
theorem doneW_univ : (Finset.univ : Finset (Fin 15 ⊕ Fin 15)) = doneW.toFinset := by decide
theorem doneW_nodup : doneW.Nodup := by decide

omit [FloatOps F] in
theorem sum_split (Φ : Fin 15 ⊕ Fin 15 → sProp 𝕄) :
    bigSep Finset.univ Φ = iprop((bigSep Finset.univ fun k => Φ (.inl k)) ∗ bigSep Finset.univ fun k => Φ (.inr k)) := bigSep_univ_sum Φ
omit [FloatOps F] in
theorem sep_split {I : Type} (s : Finset I) (Φ Ψ : I → sProp 𝕄) :
    (bigSep s fun i => iprop(Φ i ∗ Ψ i)) = iprop(bigSep s Φ ∗ bigSep s Ψ) := bigSep_sep s Φ Ψ

/-- The positions and the receive credits, with which the waits will be made. -/
def waitRes : sProp 𝕄 :=
  iprop((bigSep Finset.univ fun i : Fin 15 ⊕ Fin 15 => atPos ER (wcell c i) 0 ∅ 0)
    ∗ bigSep Finset.univ fun k : Fin 15 => cred (tallyAt (recvCell c k) () N))

/-- What stays aside during the waits. -/
def aside : sProp 𝕄 := iprop(semVal (barCell c) 0 ∗ rowPts c c (shareDrop fullShare 15) (totBuf X))

/-- All transfers started: the local sums may begin, and the waits' needs are together. -/
theorem sends_loc :
    sendSt X K c [] doneK (kept X c (iprop(xPts X c ∗ oPts X c 0 ∗ waitRes c))) ⊢ locSt X c 0 (waitSt X K c allW [] (aside X c)) := by
  unfold sendSt kept locSt waitSt aside waitRes
  iintro ⟨Hrec, HA, -, Hs, Hz, Hd, Hx, Ho, Hat, Hc⟩
  isplitl [Hx]; · iexact Hx
  isplitl [Ho]; · iexact Ho
  isplitl [Hrec]; · iexact Hrec
  isplitl [HA]; · iexact HA
  isplitl [Hs Hat Hc]
  · iapply (show iprop((bigSep Finset.univ fun i : Fin 15 ⊕ Fin 15 => atPos ER (wcell c i) 0 ∅ 0)
        ∗ bigSep Finset.univ fun i : Fin 15 ⊕ Fin 15 => cred (tallyAt (wcell c i) () N)) ⊢ sepL (waitPre (F := F) c) allW from by
      rw [← sepL_univ (waitPre c) allW allW_univ allW_nodup, ← sep_split]
      exact BI.Entails.refl _)
    isplitl [Hat]; · iexact Hat
    rw [sum_split]
    isplitl [Hs]
    · iapply (show sepL (sent (F := F) c) doneK ⊢ bigSep Finset.univ fun k : Fin 15 => cred (tallyAt (wcell c (.inl k)) () N) from by
        rw [← sepL_univ (sent c) doneK doneK_univ doneK_nodup]
        exact BI.Entails.refl _)
      iexact Hs
    · iexact Hc
  isplitr; · unfold sepL; iempintro
  isplitl [Hz] <;> iassumption

/-- The waits over: the totals buffer is whole again and holds every device's column sums; the counters are zero. -/
theorem rows_join :
    iprop(sepL (waited X c) doneW ∗ rowPts c c (shareDrop fullShare 15) (totBuf X))
      ⊢ iprop((((c : Thread nD τ).loc cc0_scratch0) ↦{fullShare} totBuf X)
          ∗ bigSep Finset.univ fun i : Fin 15 ⊕ Fin 15 => semVal (wcell c i) 0) := by
  rw [← sepL_univ (waited X c) doneW doneW_univ doneW_nodup, tot_rows, bigSep_at (Finset.mem_univ c) (Φ := fun r => rowPts c r fullShare (totBuf X)),
    others_src, bigSep_map]
  iintro ⟨Hw, Hd⟩
  ihave Hw := (show bigSep Finset.univ (waited X c) ⊢ iprop(((bigSep Finset.univ fun k : Fin 15 => wpay X c (.inl k))
      ∗ bigSep Finset.univ fun k : Fin 15 => wpay X c (.inr k)) ∗ bigSep Finset.univ fun i : Fin 15 ⊕ Fin 15 => semVal (wcell c i) 0) from by
    rw [← sum_split (wpay X c), ← sep_split]
    exact BI.Entails.refl _) $$ Hw
  icases Hw with ⟨⟨Hs, Hr⟩, Hz⟩
  isplitr [Hz]
  · isplitl [Hd Hs]
    · iapply (row_shares X c).2
      isplitl [Hd]; · iexact Hd
      iapply (show (bigSep Finset.univ fun k : Fin 15 => wpay X c (.inl k))
          ⊢ sepL (fun k : Fin 15 => rowPts c c (shareTokN fullShare k.val) (totBuf X)) allK from by
        rw [← sepL_univ _ allK allK_univ allK_nodup]
        exact BI.Entails.refl _)
      iexact Hs
    · iexact Hr
  · iexact Hz

/-- The output buffer after all thirty-two stores. -/
theorem o_full : oPts X c 32 ⊢ ((c : Thread nD τ).loc cc0_stg1_0) ↦{fullShare} localOut (X c) := by
  unfold oPts
  iintro ⟨%f, %hf, Ho⟩
  have h : f = localOut (X c) := funext fun i => hf i (show (i 0).val < 4096 from (i 0).isLt)
  subst h
  iexact Ho

/-- What the body ends with, its output buffer holding `g`. -/
def endSt (g : (cc0_stg1_0 : Ref sig .tc).ty.Contents (Elt F)) : sProp 𝕄 :=
  iprop(acct c 0 ∗ xPts X c ∗ (((c : Thread nD τ).loc cc0_stg1_0) ↦{fullShare} g)
    ∗ (((c : Thread nD τ).loc cc0_scratch0) ↦{fullShare} totBuf X) ∗ semVal (barCell c) 0
    ∗ bigSep Finset.univ fun i : Fin 15 ⊕ Fin 15 => semVal (wcell c i) 0)

theorem waits_end : waitSt X K c [] doneW (locSt X c 32 (aside X c)) ⊢ endSt X c (localOut (X c)) := by
  unfold waitSt locSt aside endSt
  iintro ⟨-, HA, -, Hw, Hx, Ho, Hz, Hd⟩
  ihave Ho := (o_full X c) $$ Ho
  ihave H := (rows_join X c) $$ [Hw Hd]
  · isplitl [Hw] <;> iassumption
  icases H with ⟨Ht, Hs⟩
  isplitl [HA]; · iexact HA
  isplitl [Hx]; · iexact Hx
  isplitl [Ho]; · iexact Ho
  isplitl [Ht]; · iexact Ht
  isplitl [Hz] <;> iassumption

/-! ## The last loads and the last store -/

abbrev wholeR : Rect S4096x1024 := Rect.unit (s := S4096x1024) ![0, 0] S4096x1024.size inb_S4096x1024_S4096x1024_0_0

theorem step_loadt {hl} {g} {α : Type} {Q : α → sProp 𝕄} {k : Vec F S16x1024 .f32 → Prog (TpuEff nD τ sig (Elt F) Λ₀ .tc) α}
    (h : endSt X c g ⊢ wpc c (k (totBuf X)) Q) :
    endSt X c g ⊢ wpc c (.op (.load tM (Rect.unit (s := S16x1024) ![0, 0] S16x1024.size inb_S16x1024_S16x1024_0_0).toLoadRect hl) k) Q := by
  unfold endSt at h ⊢
  iintro ⟨HA, Hx, Ho, Ht, HR⟩
  iapply (wp_load 𝒱₀ (c : Thread nD τ) none Set.univ (m := tM) (Finset.subset_univ _)) $$ Ht
  iintro Ht
  rw [show (tM : Memref sig .tc .vmem S16x1024 .f32).view.readAt (Elt F) (Rect.unit (s := S16x1024) ![0, 0] S16x1024.size
    inb_S16x1024_S16x1024_0_0).toLoadRect (totBuf X) = totBuf X from Memref.readAt_unit_zero (Elt F) cc0_scratch0 hz _ _]
  iapply h
  isplitl [HA]; · iexact HA
  isplitl [Hx]; · iexact Hx
  isplitl [Ho]; · iexact Ho
  isplitl [Ht] <;> iassumption

theorem step_loado {hl} {g} {α : Type} {Q : α → sProp 𝕄} {k : Vec F S4096x1024 .f32 → Prog (TpuEff nD τ sig (Elt F) Λ₀ .tc) α}
    (h : endSt X c g ⊢ wpc c (k g) Q) :
    endSt X c g ⊢ wpc c (.op (.load oM wholeR.toLoadRect hl) k) Q := by
  unfold endSt at h ⊢
  iintro ⟨HA, Hx, Ho, HR⟩
  iapply (wp_load 𝒱₀ (c : Thread nD τ) none Set.univ (m := oM) (Finset.subset_univ _)) $$ Ho
  iintro Ho
  rw [show (oM : Memref sig .tc .vmem S4096x1024 .f32).view.readAt (Elt F) wholeR.toLoadRect g = g from
    Memref.readAt_unit_zero (Elt F) cc0_stg1_0 hz _ _]
  iapply h
  isplitl [HA]; · iexact HA
  isplitl [Hx]; · iexact Hx
  isplitl [Ho] <;> iassumption

theorem step_storeall {w : FVec F S4096x1024 .f32} {hx} {hm} {g} {α : Type} {Q : α → sProp 𝕄}
    {k : PUnit → Prog (TpuEff nD τ sig (Elt F) Λ₀ .tc) α} (h : endSt X c w ⊢ wpc c (k ⟨⟩) Q) :
    endSt X c g ⊢ wpc c (.op (.store oM wholeR w Finset.univ hx hm) k) Q := by
  unfold endSt at h ⊢
  iintro ⟨HA, Hx, Ho, HR⟩
  iapply (wp_store 𝒱₀ (c : Thread nD τ) none Set.univ (m := oM) (r := wholeR) (Mk := Finset.univ) (Finset.subset_univ _)) $$ Ho
  iintro Ho
  rw [show ((oM : Memref sig .tc .vmem S4096x1024 .f32).access wholeR : View sig .tc _ _ _).write (Elt F) g w Finset.univ = w from
    Memref.write_access_unit_zero_univ (Elt F) cc0_stg1_0 hz _ _ _]
  iapply h
  isplitl [HA]; · iexact HA
  isplitl [Hx]; · iexact Hx
  isplitl [Ho] <;> iassumption

/-! ## The body -/

/-- What the body starts with. -/
def startSt : sProp 𝕄 :=
  iprop(records X K ∗ acct c (owedSend c allK + owedBar allDev) ∗ sepL (fun d => dutyTok ER (barCell d) 0 c) allDev
    ∗ (∃ f, ((c : Thread nD τ).loc cc0_scratch0) ↦{fullShare} f)
    ∗ (atPos ER (barCell c) 0 ∅ 0 ∗ cred (tallyAt (barCell c) () 16)) ∗ sepL (sendTok c) allK ∗ xPts X c
    ∗ (oPts X c 0 ∗ waitRes c))

set_option maxHeartbeats 1600000 in
theorem part23_wp :
    startSt X K c ⊢ wpc c (k0_part23 (F := F) xM h0 oM h1 tM h2 cc0_scratch1 cc0_scratch2)
      (rets ⟨k0_pay100 (localOut (X c)), k0_pay101 (pos c) (totBuf X)⟩ (endSt X c (localOut (X c)))) := by
  rw [k0_part23_eq_skeleton]; unfold k0_part23_skel
  refine bind_step c _ (part1_wp X K c h0 h1 h2 _) ?_
  refine bind_step c _ (part2_wp X K c h0 h1 h2 _) ?_
  refine bind_step c _ (part3_wp X K c h0 h1 h2 _) ?_
  refine bind_step c _ (part4_wp X K c h0 h1 h2 _) ?_
  refine bind_step c _ (part5_wp X K c h0 h1 h2 _) ?_
  refine bind_step c _ (part6_wp X K c h0 h1 h2 _) ?_
  refine bind_step c _ (part7_wp X K c h0 h1 h2 _) ?_
  refine (sends_loc X K c).trans ?_
  refine bind_step c _ (part8_wp X c h0 h1 h2 _) ?_
  refine bind_step c _ (part9_wp X c h0 h1 h2 _) ?_
  refine bind_step c _ (part10_wp X c h0 h1 h2 _) ?_
  refine bind_step c _ (part11_wp X c h0 h1 h2 _) ?_
  refine bind_step c _ (part12_wp X c h0 h1 h2 _) ?_
  refine bind_step c _ (part13_wp X c h0 h1 h2 _) ?_
  refine bind_step c _ (part14_wp X c h0 h1 h2 _) ?_
  refine bind_step c _ (part15_wp X c h0 h1 h2 _) ?_
  refine bind_step c _ (part16_wp X K c h0 h1 h2 _) ?_
  refine bind_step c _ (part17_wp X K c h0 h1 h2 _) ?_
  obtain ⟨v18, H18⟩ := part18_wp X K c h0 h1 h2 (locSt X c 32 (aside X c))
  refine bind_step c v18 H18 ?_
  obtain ⟨v19, H19⟩ := part19_wp X K c h0 h1 h2 v18.1 v18.2 (locSt X c 32 (aside X c))
  refine bind_step c v19 H19 ?_
  refine bind_step c _ (part20_wp X K c h0 h1 h2 _ _) ?_
  refine bind_step c _ (part21_wp X K c h0 h1 h2 _) ?_
  refine bind_step c _ (part22_wp X K c h0 h1 h2 _) ?_
  simp only [semSignalWord, semWaitWord, Prog.lift, Prog.bind_op, Prog.bind_ret, Prog.pure_eq_ret, wp_deviceId]
  unfold waitSt
  refine step_wait X K c (.inl 12) (by rfl) (by rfl) ?_
  refine step_wait X K c (.inl 13) (by rfl) (by rfl) ?_
  refine step_wait X K c (.inl 14) (by rfl) (by rfl) ?_
  refine (waits_end X K c).trans ?_
  refine step_loadt X c ?_
  refine step_loado X c ?_
  exact ret_step c _

theorem body_wp : startSt X K c ⊢ wpc c (cc0_body (F := F) xM h0 oM h1 tM h2 cc0_scratch1 cc0_scratch2) (rets ⟨⟩ (endSt X c (outAt X c))) := by
  rw [cc0_body_eq_skeleton]; unfold cc0_body_skel
  refine bind_step c _ (part23_wp X K c h0 h1 h2) ?_
  simp only [semSignalWord, semWaitWord, Prog.lift, Prog.bind_op, Prog.bind_ret, Prog.pure_eq_ret, wp_deviceId]
  refine step_loado X c ?_
  refine step_storeall X c ?_
  exact ret_step c _

end Cert.KernelIdealRun

end
-- ==== Proof.KernelIdealRun.Launch.lean ====
/-
  The launch: the ghost state the sixteen devices start from (every cell's invariant allocated in one global step over all
  devices, the duty tokens dealt to the devices that pay them, the launch credit of the barrier and of the receive
  semaphores), the pipeline's proof data, and the run of @main: it terminates, leaves each device's result array at
  `outAt` of the sixteen argument blocks, the arguments unchanged, and every semaphore counter at zero.
-/
module

public import proofs.«01_k».proof.Proof.KernelIdealRun.Body
public import Idealize.ShloMosaic.Lib.Pipeline.CollectiveSegs

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def st₀ : MemSt nD τ sig (Elt F) := ⟨m, fun _ => 0, ρ⟩

/-- Device `c`'s staged block of the argument. -/
def xstg (c : Dev nD) : (cc0_stg0_0 : Ref sig .tc).ty.Contents (Elt F) :=
  (win0_0.blk (0 : Fin 1)).view.read (Elt F) ((st₀ m ρ).mem ((c : Thread nD τ).loc main_arg0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The tokens of the duties device `c` pays. -/
def payToks (c : Dev nD) : sProp 𝕄 :=
  iprop((bigSep Finset.univ fun d : Dev nD => dutyTok ER (barCell d) 0 c) ∗ bigSep Finset.univ (sendTok (F := F) c))
/-- What is device `c`'s alone: its positions at its cells and those tokens. -/
def linear (c : Dev nD) : sProp 𝕄 :=
  iprop((bigSep Finset.univ fun i : CI => atPos ER (kcell (c, i)) 0 ∅ 0) ∗ payToks c)
/-- What all devices share: the invariants and the reached marks of all cells. -/
def shared (X : Dev nD → (cc0_stg0_0 : Ref sig .tc).ty.Contents (Elt F)) (K : Dev nD × CI → ℕ) : sProp 𝕄 :=
  iprop((bigSep Finset.univ fun ci : Dev nD × CI => cellInv ER (rd X) (K ci) (kcell ci))
    ∗ bigSep Finset.univ fun ci : Dev nD × CI => reached ER (kcell ci) 0)

instance shared_persistent (X : Dev nD → (cc0_stg0_0 : Ref sig .tc).ty.Contents (Elt F)) (K : Dev nD × CI → ℕ) :
    BI.Persistent (shared X K) := by unfold shared; infer_instance

/-- What the global step makes for device `c`. -/
def G' (c : Dev nD) : sProp 𝕄 := iprop(∃ K, shared (xstg m ρ) K ∗ linear c)

/-- What device `c`'s body starts from: that, its credit tokens and the level facts. -/
def start (c : Dev nD) : sProp 𝕄 :=
  iprop(G' m ρ c ∗ cred (tallyAt (barCell c) () 16) ∗ (bigSep Finset.univ fun k : Fin 15 => cred (tallyAt (recvCell c k) () N)) ∗ levs)

def Φ₀ (c : Dev nD) : sProp 𝕄 := iprop(start m ρ c ∗ ∃ f : Buf (Elt F) ((c : Thread nD τ).loc cc0_scratch0), ((c : Thread nD τ).loc cc0_scratch0) ↦{fullShare} f)
/-- After the body: the totals buffer, and all counters at zero, their cells closed. -/
def Φ₁ (c : Dev nD) : sProp 𝕄 :=
  iprop((((c : Thread nD τ).loc cc0_scratch0) ↦{fullShare} totBuf (xstg m ρ)) ∗ semVal (barCell c) 0
    ∗ bigSep Finset.univ fun i : Fin 15 ⊕ Fin 15 => semVal (wcell c i) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m ρ c
    | ⟨1, _⟩ => outAt (xstg m ρ) c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ m ρ c ∗ (dats m ρ 0 c).owesAt () t₀.succ ∗ stg c cc0_stg0_0 (xstg m ρ c) ∗ stg c cc0_stg1_0 (outAt (xstg m ρ) c))

omit [FloatOps F] in
/-- The positions of a device: its barrier's, and its waits'. -/
theorem pos_split (c : Dev nD) (Φ : GSem nD τ sig → sProp 𝕄) :
    (bigSep Finset.univ fun i : CI => Φ (kcell (c, i))) = iprop(Φ (barCell c) ∗ bigSep Finset.univ fun i : Fin 15 ⊕ Fin 15 => Φ (wcell c i)) := by
  rw [show (bigSep Finset.univ fun i : CI => Φ (kcell (c, i)))
      = iprop((bigSep Finset.univ fun u : Unit => Φ (kcell (c, .inl u))) ∗ bigSep Finset.univ fun i => Φ (kcell (c, .inr i))) from bigSep_univ_sum _,
    bigSep_univ_eq_bigSepL [()] (by decide) (by decide)]
  rfl

/-- The body's start, from what the launch gives. -/
theorem start_of (c : Dev nD) :
    bodyPre m ρ c ⊢ iprop(∃ K, startSt (xstg m ρ) K c) := by
  unfold bodyPre Φ₀ start G' shared linear payToks startSt records waitRes acct oPts xPts
  rw [pos_split c (fun g => (atPos ER g 0 ∅ 0 : sProp 𝕄))]
  rw [sepL_univ _ allDev allDev_univ allDev_nodup, sepL_univ _ allK allK_univ allK_nodup]
  unfold Dat.owesAt Pipeline.owesWithin
  rw [show (dats m ρ 0 c).owed t₀.castSucc = O₀ c from rfl]
  iintro ⟨⟨⟨⟨%K, ⟨HI, HR⟩, ⟨HaB, HaW⟩, HtB, HtS⟩, HcB, HcR, HL⟩, Hscr⟩, ⟨%W, %hW, HO⟩, ⟨%d0, %g0, %hg0, Hx⟩, ⟨%d1, %g1, %hg1, Hout⟩⟩
  have hx : g0 = xstg m ρ c := by rw [hg0]; unfold Dat.before; rw [if_pos (fetch_0 t₀)]; rfl
  subst hx
  iexists K
  isplitl [HI HR HL]
  · isplitl [HI]; · iexact HI
    isplitl [HR] <;> iassumption
  isplitl [HO]
  · iexists W; unfold O₀; iexact HO
  isplitl [HtB]; · iexact HtB
  isplitl [Hscr]; · iexact Hscr
  isplitl [HaB HcB]
  · isplitl [HaB] <;> iassumption
  isplitl [HtS]; · iexact HtS
  isplitl [Hx]; · iexact Hx
  isplitl [Hout]
  · iexists g1
    isplitr; · ipureintro; exact fun i hi => absurd hi (by omega)
    iexact Hout
  isplitl [HaW]; · iexact HaW
  iexact HcR

theorem end_of (c : Dev nD) : endSt (xstg m ρ) c (outAt (xstg m ρ) c) ⊢ bodyPost m ρ c := by
  unfold endSt bodyPost Φ₁ acct xPts Dat.owesAt Pipeline.owesWithin
  rw [show (dats m ρ 0 c).owed t₀.succ = 0 from rfl]
  iintro ⟨⟨%W, HO⟩, Hx, Hout, Hscr, HzB, Hz⟩
  isplitl [Hscr HzB Hz]
  · isplitl [Hscr]; · iexact Hscr
    isplitl [HzB] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

theorem starts_wp (c : Dev nD) (h0 : xM.IsWhole) (h1 : oM.IsWhole) (h2 : tM.IsWhole) :
    iprop(∃ K, startSt (xstg m ρ) K c) ⊢ wpc c (cc0_body (F := F) xM h0 oM h1 tM h2 cc0_scratch1 cc0_scratch2) (fun _ => bodyPost m ρ c) := by
  have h : ∀ r : PUnit, rets ⟨⟩ (endSt (xstg m ρ) c (outAt (xstg m ρ) c)) r ⊢ bodyPost m ρ c := fun r => by
    unfold rets
    iintro ⟨-, H⟩
    iapply (end_of m ρ c)
    iexact H
  iintro ⟨%K, H⟩
  iapply ((body_wp (xstg m ρ) K c h0 h1 h2).trans (wp_mono _ _ _ h))
  iexact H

set_option maxRecDepth 40000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wpc c
    (cc0_body (F := F) xM (Memref.isWhole_whole _) oM (Memref.isWhole_whole _) tM (Memref.isWhole_whole _) cc0_scratch1 cc0_scratch2) (fun _ => bodyPost m ρ c)
  exact (start_of m ρ c).trans (starts_wp m ρ c _ _ _)

/-! ## The cells and the tokens minted -/

/-- The kernel's own (scoped) semaphores: the sends and the receives. -/
abbrev osem : Fin 15 ⊕ Fin 15 → SemLoc sig := fun i => .dma (wsem i)
theorem ownSemFacts : Pipeline.OwnSemFacts cfg0.spec osem := by decide

theorem share_eq (c : Dev nD) (w : Fin cfg0.W) : (dats m ρ 0 c).share w = fullShare := by unfold Dat.share; split <;> rfl

theorem csem_inj : Function.Injective csem := by decide
theorem kcell_injective : Function.Injective kcell := by
  rintro ⟨c, k⟩ ⟨c', k'⟩ h
  have h1 : c = c' := congrArg (fun g : GSem nD τ sig => g.1.1) h
  have h2 : k = k' := csem_inj (congrArg Prod.snd h)
  rw [h1, h2]
def allCells : Finset (GSem nD τ sig) := Finset.univ.map ⟨kcell, kcell_injective⟩

/-- A device's own cells' duties: its barrier's sixteen, its sends' and its receives' one each; -/
abbrev TI : Type := Dev nD ⊕ (Fin 15 ⊕ Fin 15)
abbrev tokIdx : TI → CI × Dev nD
  | .inl d => (.inl (), d)
  | .inr i => (.inr i, 0)
/-- their tokens, as minted. -/
abbrev tokOf (cj : Dev nD × TI) : GSem nD τ sig × ℕ × Dev nD := (kcell (cj.1, (tokIdx cj.2).1), 0, (tokIdx cj.2).2)
theorem tokIdx_inj : Function.Injective tokIdx := by
  rintro (d | i) (d' | i') h
  · rw [show d = d' from congrArg Prod.snd h]
  · exact absurd (congrArg Prod.fst h) (by simp)
  · exact absurd (congrArg Prod.fst h) (by simp)
  · have h' : (Sum.inr i : CI) = .inr i' := congrArg Prod.fst h
    rw [Sum.inr.inj h']
theorem tokOf_injective : Function.Injective tokOf := by
  rintro ⟨c, j⟩ ⟨c', j'⟩ h
  have h1 := kcell_injective (congrArg Prod.fst h)
  have h2 : (tokIdx j).2 = (tokIdx j').2 := congrArg (fun x : GSem nD τ sig × ℕ × Dev nD => x.2.2) h
  have h3 : (tokIdx j).1 = (tokIdx j').1 := congrArg Prod.snd h1
  rw [show c = c' from congrArg Prod.fst h1, tokIdx_inj (Prod.ext h3 h2)]
def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun d : Dev nD => dutyTok ER (barCell c) 0 d) ∗ (bigSep Finset.univ fun k : Fin 15 => dutyTok ER (sendCell c k) 0 0)
    ∗ bigSep Finset.univ fun k : Fin 15 => dutyTok ER (recvCell c k) 0 0)

omit [FloatOps F] in
theorem toks_eq (c : Dev nD) : (bigSep Finset.univ fun j : TI => (dutyTok ER (tokOf (c, j)).1 (tokOf (c, j)).2.1 (tokOf (c, j)).2.2 : sProp 𝕄)) = toks c := by
  unfold toks
  rw [← sum_split (fun i : Fin 15 ⊕ Fin 15 => (dutyTok ER (wcell c i) 0 0 : sProp 𝕄))]
  refine (show _ = iprop((bigSep Finset.univ fun d : Dev nD => dutyTok ER (tokOf (c, .inl d)).1 (tokOf (c, .inl d)).2.1 (tokOf (c, .inl d)).2.2)
    ∗ bigSep Finset.univ fun i : Fin 15 ⊕ Fin 15 => dutyTok ER (tokOf (c, .inr i)).1 (tokOf (c, .inr i)).2.1 (tokOf (c, .inr i)).2.2) from bigSep_univ_sum _).trans ?_
  rfl

/-- What the launch element deals device `c`. -/
def G (c : Dev nD) : sProp 𝕄 :=
  iprop((bigSep Finset.univ fun k : CI => roundState ER (rd (xstg m ρ)) (kcell (c, k)) 0)
    ∗ (bigSep Finset.univ fun k : CI => iprop(atPos ER (kcell (c, k)) 0 ∅ 0 ∗ reached ER (kcell (c, k)) 0)) ∗ toks c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (rd (xstg m ρ)) allCells allToks) $$ HX with ⟨Hst, Hr, Hat, Htok⟩
  imodintro
  ihave Hst' := (Entails.of_eq (hX fun g => roundState ER (rd (xstg m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun i : Fin 15 ⊕ Fin 15 => semVal (wcell c i) 0 := rfl
omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, pos_split c (fun g => (semVal g 0 : sProp 𝕄))]
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd (xstg m ρ)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (rd (xstg m ρ)) (kcell (c, k)) 0)
      ⊢ (|={Set.univ}=> bigSep Finset.univ fun k => iprop(∃ κ : ℕ, cellInv ER (rd (xstg m ρ)) κ (kcell (c, k))) : sProp 𝕄) from by
        rw [← bigSep_sep']
        exact (bigSep_mono fun k _ => (Rounds.body_intro ER (rd (xstg m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt around: a barrier duty to the device it names, a receive duty to the device the transfer comes from. -/
theorem toks_around : (bigSep Finset.univ fun c : Dev nD => (toks c : sProp 𝕄)) ⊢ bigSep Finset.univ fun c : Dev nD => payToks c := by
  have hB : (bigSep Finset.univ fun c : Dev nD => bigSep Finset.univ fun d : Dev nD => (dutyTok ER (barCell c) 0 d : sProp 𝕄))
      = bigSep Finset.univ fun c : Dev nD => bigSep Finset.univ fun d : Dev nD => dutyTok ER (barCell d) 0 c := bigSep_univ_comm _
  have hR : (bigSep Finset.univ fun c : Dev nD => bigSep Finset.univ fun k : Fin 15 => (dutyTok ER (recvCell c k) 0 0 : sProp 𝕄))
      = bigSep Finset.univ fun c : Dev nD => bigSep Finset.univ fun k : Fin 15 => dutyTok ER (recvCell (tgt c k) k) 0 0 := by
    rw [bigSep_univ_comm, bigSep_univ_comm (fun c k => (dutyTok ER (recvCell (tgt c k) k) 0 0 : sProp 𝕄))]
    exact bigSep_congr fun k _ => bigSep_univ_equiv (rot k) (fun c : Dev nD => (dutyTok ER (recvCell c k) 0 0 : sProp 𝕄))
  unfold toks payToks sendTok
  simp only [bigSep_sep']
  rw [hB, hR]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd (xstg m ρ)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (rd (xstg m ρ)) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (rd (xstg m ρ)) κ (kcell ck) : sProp 𝕄))) $$ HI
  icases HK with ⟨%K, #HI⟩
  ihave Htk := (toks_around (F := F)) $$ Htok
  iapply (bigSep_with_persistent (R := shared (xstg m ρ) K) (Φ := linear) (Ψ := G' m ρ) fun c _ => (by
    unfold G'
    iintro H
    iexists K
    iexact H))
  isplitr
  · unfold shared; isplitl; · iexact HI
    iexact HR
  · iapply ((Entails.of_eq (bigSep_sep' Finset.univ (fun c : Dev nD => bigSep Finset.univ fun k : CI => (atPos ER (kcell (c, k)) 0 ∅ 0 : sProp 𝕄)) payToks).symm).trans
      (bigSep_mono fun c _ => show _ ⊢ linear c from BI.Entails.refl _))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem recv_ne_bar (d c : Dev nD) (k : Fin 15) : barCell d ≠ recvCell c k := fun h => by
  have := congrArg Prod.snd h; cases this
theorem bar_iff {a b : Dev nD} : Iff (barCell a = barCell b) (a = b) :=
  ⟨fun h => congrArg (fun g : GSem nD τ sig => g.1.1) h, fun h => h ▸ rfl⟩
theorem recv_iff {a b : Dev nD} {k k' : Fin 15} : Iff (recvCell a k = recvCell b k') (a = b ∧ k = k') :=
  ⟨fun h => by
    have h' := kcell_injective (a₁ := (a, .inr (.inr k))) (a₂ := (b, .inr (.inr k'))) h
    exact ⟨congrArg Prod.fst h', Sum.inr.inj (Sum.inr.inj (congrArg Prod.snd h'))⟩, fun h => by rw [h.1, h.2]⟩

theorem owedSend_bar (d c : Dev nD) : ∀ ks, owedSend d ks (barCell c) () = 0
  | [] => rfl
  | k :: ks => by
    unfold owedSend
    rw [Pi.add_apply, Finsupp.add_apply, owedSend_bar d c ks, tallyAt_ne_cell (recv_ne_bar _ _ _)]; rfl
theorem owedBar_recv (c : Dev nD) (k : Fin 15) : ∀ ds, owedBar ds (recvCell c k) () = 0
  | [] => rfl
  | d :: ds => by
    unfold owedBar
    rw [Pi.add_apply, Finsupp.add_apply, owedBar_recv c k ds, tallyAt_ne_cell (recv_ne_bar _ _ _).symm]; rfl
theorem owedBar_bar (c : Dev nD) : ∀ ds, owedBar ds (barCell c) () = ds.count c
  | [] => rfl
  | d :: ds => by
    unfold owedBar
    rw [Pi.add_apply, Finsupp.add_apply, owedBar_bar c ds, tallyAt_apply, List.count_cons]
    congr 1
    by_cases h : d = c
    · subst h; simp
    · rw [if_neg (fun h' => h (bar_iff.mp h'.1).symm), if_neg (by simpa using h)]
theorem owedSend_recv (d c : Dev nD) (k : Fin 15) : ∀ ks, owedSend d ks (recvCell c k) () = if d = src c k then ks.count k * N else 0
  | [] => by unfold owedSend; simp
  | k' :: ks => by
    unfold owedSend
    rw [Pi.add_apply, Finsupp.add_apply, owedSend_recv d c k ks, tallyAt_apply, List.count_cons]
    by_cases hd : d = src c k
    · subst hd
      rw [if_pos rfl, if_pos rfl]
      by_cases hk : k' = k
      · subst hk; rw [tgt_src, if_pos ⟨rfl, rfl⟩]; simp [Nat.add_mul]
      · rw [if_neg (fun h => hk (recv_iff.mp h.1).2.symm)]; simp [hk]
    · rw [if_neg hd, if_neg hd, if_neg (fun h => hd (by
        obtain ⟨h1, h2⟩ := recv_iff.mp h.1
        rw [h1, h2, src_tgt]))]

theorem owed_bar (d c : Dev nD) : O₀ d (barCell c) () = 1 := by
  unfold O₀
  rw [Pi.add_apply, Finsupp.add_apply, owedSend_bar, owedBar_bar, Nat.zero_add]
  revert c; decide
theorem owed_recv (d c : Dev nD) (k : Fin 15) : O₀ d (recvCell c k) () = if d = src c k then N else 0 := by
  unfold O₀
  rw [Pi.add_apply, Finsupp.add_apply, owedSend_recv, owedBar_recv, Nat.add_zero]
  rw [show allK.count k = 1 from by revert k; decide, Nat.one_mul]

theorem launch_bar (c : Dev nD) :
    tallyOn (barCell c) (launchCredit (Pipeline.owing O₀) 0 (barCell c)) = (tallyAt (barCell c) () 16 : CellTallies nD τ sig Unit) := by
  unfold tallyAt; refine congrArg _ (Finsupp.ext fun u => ?_); cases u
  rw [Pipeline.launchCredit_owing, Finsupp.single_eq_same, Finset.sum_congr rfl fun d _ => owed_bar d c]
  decide

theorem launch_recv (c : Dev nD) (k : Fin 15) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (src c k) fun _ => N,
    if_pos (Finset.mem_univ _)]

/-- The receive semaphores. -/
def recvEmb : Fin 15 ↪ SemLoc sig := ⟨fun k => .dma (recvS k), fun k k' h => Sum.inr.inj (Sum.inr.inj (csem_inj (a₁ := .inr (.inr k)) (a₂ := .inr (.inr k')) h))⟩

omit [FloatOps F] in
theorem creds (c : Dev nD) :
    (Pipeline.launchCred O₀ c : sProp 𝕄) ⊢ iprop(cred (tallyAt (barCell c) () 16) ∗ bigSep Finset.univ fun k : Fin 15 => cred (tallyAt (recvCell c k) () N)) := by
  unfold Pipeline.launchCred
  rw [bigSep_univ_at _ (SemLoc.reg barS), launch_bar]
  refine sep_mono_right ?_
  rw [show (bigSep Finset.univ fun k : Fin 15 => (cred (tallyAt (recvCell c k) () N) : sProp 𝕄))
      = bigSep (Finset.univ.map recvEmb) fun sm : SemLoc sig => cred (tallyOn ((c.tc : Thread nD τ), sm) (launchCredit (Pipeline.owing O₀) 0 ((c.tc : Thread nD τ), sm))) from by
    rw [bigSep_map]
    exact bigSep_congr fun k _ => congrArg cred (launch_recv c k).symm]
  exact bigSep_subset fun sm h => by
    obtain ⟨k, -, rfl⟩ := Finset.mem_map.mp h
    exact Finset.mem_erase.mpr ⟨fun h' => (by cases h'), Finset.mem_univ _⟩

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start levs
  iintro ⟨-, Hlev, Hcr, -, HG⟩
  ihave Hc := (creds (F := F) c) $$ Hcr
  icases Hc with ⟨H1, HN⟩
  imodintro
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hr, HzB, Hz⟩
  isplitl [HzB]; · iexact HzB
  isplitl [Hz]; · iexact Hz
  iexists (totBuf (xstg m ρ)); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the sixteen devices, for any float values, from any memory with zero counters: every weakly fair execution of
    @main terminates, and every final state has each device's arrays at the computed contents and every counter at zero. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array after the run holds what it held. -/
theorem finalA_x (c : Dev nD) : finalA m ρ c (0 : Fin 2) = (st₀ m ρ).mem (win0_0.arr.view.loc (c : Thread nD τ)) :=
  (dats (F := F) m ρ 0 c).arrAt_in (0 : Fin 2) rfl _

end Cert.KernelIdealRun

end
-- ==== Proof.Value.Prefix.lean ====
/-
  Prefix sums of the columns of an array of extended reals: the vocabulary in which the kernel's result and the
  reference's are both stated, and the equations between such sums that the kernel's blocking rests on.
-/
module

public import Idealize.ShloMosaic.Lib.Pointwise

@[expose] public section

noncomputable section

namespace Cert.Prefix

open Idealize.ShloMosaic
open scoped BigOperators

variable {n w : ℕ}

/-- The element in row `r` and column `j`, or zero where there is no such row. -/
def row (x : (⟨2, ![n, w]⟩ : Shape).Idx → EReal) (j : Fin w) (r : ℕ) : EReal := if h : r < n then x (ix2 ⟨r, h⟩ j) else 0

/-- The sum of the first `r` elements of column `j`. -/
def pre (x : (⟨2, ![n, w]⟩ : Shape).Idx → EReal) (j : Fin w) (r : ℕ) : EReal := ∑ k ∈ Finset.range r, row x j k

theorem row_of_lt (x : (⟨2, ![n, w]⟩ : Shape).Idx → EReal) (j : Fin w) {r : ℕ} (h : r < n) : row x j r = x (ix2 ⟨r, h⟩ j) := dif_pos h

/-- The whole column's sum is the sum over its rows. -/
theorem pre_all (x : (⟨2, ![n, w]⟩ : Shape).Idx → EReal) (j : Fin w) : pre x j n = ∑ k : Fin n, x (ix2 k j) := by
  unfold pre
  rw [← Fin.sum_univ_eq_sum_range]
  exact Finset.sum_congr rfl fun k _ => row_of_lt x j k.isLt

/-- A longer prefix is a prefix and the elements after it. -/
theorem pre_add (x : (⟨2, ![n, w]⟩ : Shape).Idx → EReal) (j : Fin w) (a b : ℕ) :
    pre x j (a + b) = pre x j a + ∑ k ∈ Finset.range b, row x j (a + k) := Finset.sum_range_add _ _ _

/-- The prefix over `d` pieces of `s` rows is the sum of the pieces' sums. -/
theorem pre_mul (x : (⟨2, ![n, w]⟩ : Shape).Idx → EReal) (j : Fin w) (s d : ℕ) :
    pre x j (s * d) = ∑ e ∈ Finset.range d, ∑ k ∈ Finset.range s, row x j (s * e + k) := by
  induction d with
  | zero => simp [pre]
  | succ d ih => rw [Nat.mul_succ, pre_add, ih, Finset.sum_range_succ]

/-- Of `m` terms, those at or before `i`, by a mask of ones and zeros. -/
theorem sum_mask (f : ℕ → EReal) {m i : ℕ} (hi : i < m) :
    ∑ k : Fin m, (if k.val ≤ i then (1 : EReal) else 0) * f k.val = ∑ k ∈ Finset.range (i + 1), f k := by
  rw [Fin.sum_univ_eq_sum_range (fun k => (if k ≤ i then (1 : EReal) else 0) * f k) m]
  obtain ⟨d, rfl⟩ : ∃ d, m = (i + 1) + d := ⟨m - (i + 1), by omega⟩
  rw [Finset.sum_range_add]
  rw [Finset.sum_eq_zero (s := Finset.range d) fun k _ => by rw [if_neg (by omega), zero_mul], add_zero]
  exact Finset.sum_congr rfl fun k hk => by rw [if_pos (by have := Finset.mem_range.1 hk; omega), one_mul]

/-- Of `m` terms, those before `i`. -/
theorem sum_below (f : ℕ → EReal) {m i : ℕ} (hi : i ≤ m) :
    ∑ k : Fin m, (if k.val < i then f k.val else 0) = ∑ k ∈ Finset.range i, f k := by
  rw [Fin.sum_univ_eq_sum_range (fun k => if k < i then f k else 0) m]
  obtain ⟨d, rfl⟩ : ∃ d, m = i + d := ⟨m - i, by omega⟩
  rw [Finset.sum_range_add]
  rw [Finset.sum_eq_zero (s := Finset.range d) fun k _ => if_neg (by omega), add_zero]
  exact Finset.sum_congr rfl fun k hk => if_pos (Finset.mem_range.1 hk)

/-- A window that begins `p` before the array, moved by `i ≤ p`, meets the elements up to `i`. -/
theorem sum_padded (f : ℕ → EReal) {p i : ℕ} (hi : i ≤ p) :
    ∑ k ∈ Finset.range (p + 1), (if p ≤ i + k then f (i + k - p) else 0) = ∑ k ∈ Finset.range (i + 1), f k := by
  obtain ⟨d, rfl⟩ : ∃ d, p = i + d := ⟨p - i, by omega⟩
  rw [show i + d + 1 = d + (i + 1) by omega, Finset.sum_range_add]
  rw [Finset.sum_eq_zero (s := Finset.range d) fun k hk => if_neg (by have := Finset.mem_range.1 hk; omega), zero_add]
  exact Finset.sum_congr rfl fun k _ => by rw [if_pos (by omega), show i + (d + k) - (i + d) = k by omega]

/-- Adding the terms of a list one after the other adds their sum. -/
theorem foldl_add {α : Type*} (g : α → EReal) (l : List α) (a : EReal) : l.foldl (fun r n => r + g n) a = a + (l.map g).sum := by
  induction l generalizing a with
  | nil => simp
  | cons b l ih => rw [List.foldl_cons, ih, List.map_cons, List.sum_cons, add_assoc]

/-- The sum over a window as long as the array, one column wide, padded in front by one row less than the array has:
    at row `i` it is the sum of the rows up to `i`. -/
theorem window_apply {N p : ℕ} (hN : p + 1 = N) {u : Shape} (x : (⟨2, ![N, w]⟩ : Shape).Idx → EReal) (init : u.Idx → EReal)
    (h : (⟨2, ![N, w]⟩ : Shape).ReduceWindows (![N, 1] : Fin 2 → ℕ) ![1, 1] ![p, 0] ![0, 0] ⟨2, ![N, w]⟩) (hu : 0 < u.numel)
    (hinit : init (Shape.Idx.first hu) = 0) (i : Fin N) (j : Fin w) :
    Host.reduceWindow (· + ·) ![N, 1] ![1, 1] ![p, 0] ![0, 0] x init h hu (ix2 i j) = pre x j (i.val + 1) := by
  subst hN
  have hi := i.isLt
  have hj := j.isLt
  unfold Host.reduceWindow
  dsimp only
  rw [hinit]
  refine (foldl_add _ _ 0).trans ?_
  rw [zero_add, ← Fin.sum_univ_def]
  let G : (⟨2, ![p + 1, 1]⟩ : Shape).Idx → EReal := fun q => if p ≤ i.val + (q 0).val then row x j (i.val + (q 0).val - p) else 0
  refine (Finset.sum_congr rfl fun k _ => ?_).trans ((Equiv.sum_comp (Shape.rowMajor ⟨2, ![p + 1, 1]⟩).symm G).trans ?_)
  · let q : (⟨2, ![p + 1, 1]⟩ : Shape).Idx := (Shape.rowMajor ⟨2, ![p + 1, 1]⟩).symm k
    have h0 : (q 0).val < p + 1 := (q 0).isLt
    have h1 : (q 1).val < 1 := (q 1).isLt
    show _ = if p ≤ i.val + (q 0).val then row x j (i.val + (q 0).val - p) else 0
    split
    · next hin =>
      have e0 : p ≤ i.val * 1 + (q 0).val ∧ i.val * 1 + (q 0).val - p < p + 1 := hin 0
      rw [if_pos (by omega), row_of_lt x j (by omega)]
      refine congrArg x (funext fun a => Fin.ext ?_)
      match a with
      | ⟨0, _⟩ => show i.val * 1 + (q 0).val - p = i.val + (q 0).val - p; omega
      | ⟨1, _⟩ => show j.val * 1 + (q 1).val - 0 = j.val; omega
    · next hin =>
      rw [if_neg fun hle => hin fun a => by
        match a with
        | ⟨0, _⟩ => show p ≤ i.val * 1 + (q 0).val ∧ i.val * 1 + (q 0).val - p < p + 1; omega
        | ⟨1, _⟩ => show 0 ≤ j.val * 1 + (q 1).val ∧ j.val * 1 + (q 1).val - 0 < w; omega]
  · rw [ValueIdx.sum_idx2]
    rw [show pre x j (i.val + 1) = _ from (sum_padded (row x j) (by omega : i.val ≤ p)).symm, ← Fin.sum_univ_eq_sum_range]
    exact Finset.sum_congr rfl fun a _ => Fintype.sum_unique _

/-- So the host's cumulative sum down the rows, over the extended reals, is the prefix sum. -/
theorem cumsum_apply {N p : ℕ} (hN : p + 1 = N) {u : Shape} (x : FVec Ideal ⟨2, ![N, w]⟩ .f32) (init : FVec Ideal u .f32)
    (h : (⟨2, ![N, w]⟩ : Shape).ReduceWindows (![N, 1] : Fin 2 → ℕ) ![1, 1] ![p, 0] ![0, 0] ⟨2, ![N, w]⟩) (hu : 0 < u.numel)
    (hinit : init (Shape.Idx.first hu) = (0 : EReal)) (i : Fin N) (j : Fin w) :
    (Host.reduceWindowAdd (F := Ideal) ![N, 1] ![1, 1] ![p, 0] ![0, 0] x init h hu (ix2 i j) : EReal) = pre x j (i.val + 1) := by
  refine Eq.trans ?_ (window_apply hN x (fun _ : u.Idx => (0 : EReal)) h hu rfl i j)
  show Ideal.hostReduceWindowAdd ![N, 1] ![1, 1] ![p, 0] ![0, 0] h x (init (Shape.Idx.first hu)) (ix2 i j) = _
  rw [hinit]
  rfl

end Cert.Prefix

end
-- ==== Proof.Value.KernelValue.lean ====
/-
  What the kernel's body computes, over the extended reals: the product with the triangular matrix of ones is the prefix
  sum inside a block, the running total is the prefix over the blocks before, a device's total is the whole column's sum,
  and the masked sum of the totals is the sum over the devices before.
-/
module

public import proofs.«01_k».proof.Proof.KernelIdealRun.Launch
public import proofs.«01_k».proof.Proof.Value.Prefix

@[expose] public section

noncomputable section

namespace Cert.KernelIdealRun

open Cert.KernelIdeal Cert.KernelIdeal.Gen Cert.Prefix
open Idealize.ShloMosaic
open Idealize.ShloMosaic.TcCoe
open scoped BigOperators

/-- A small number as a word, read signed, is the number. -/
theorem word_toInt {a : ℕ} (h : a < 2 ^ 31) : (BitVec.ofNat 32 a).toInt = a := by
  rw [BitVec.toInt_eq_toNat_of_lt (by rw [BitVec.toNat_ofNat]; omega), BitVec.toNat_ofNat, Nat.mod_eq_of_lt (by omega)]

/-- The matrix of the product is one on and below the diagonal and zero above. -/
theorem triangle_apply (r k : Fin 128) : k0_pay3 (F := Ideal) (ix2 r k) = if k.val ≤ r.val then (1 : EReal) else 0 := by
  have hb : IntOp.cmpi CmpIPredicate.sge (BitVec.ofNat 32 r.val) (BitVec.ofNat 32 k.val) = BitVec.ofBool (decide (k.val ≤ r.val)) := by
    show BitVec.ofBool ((BitVec.ofNat 32 k.val).sle (BitVec.ofNat 32 r.val)) = _
    rw [BitVec.sle_eq_decide, word_toInt (by omega), word_toInt (by omega)]
    simp
  pointwise [k0_pay3]
  rw [hb]
  by_cases h : k.val ≤ r.val
  · rw [if_pos h, decide_eq_true h]
    show (((BitVec.setWidth 32 (BitVec.ofBool true)).toInt : ℝ) : EReal) = 1
    rw [show (BitVec.setWidth 32 (BitVec.ofBool true)).toInt = 1 by decide]
    simp
  · rw [if_neg h, decide_eq_false h]
    show (((BitVec.setWidth 32 (BitVec.ofBool false)).toInt : ℝ) : EReal) = 0
    rw [show (BitVec.setWidth 32 (BitVec.ofBool false)).toInt = 0 by decide]
    simp

/-- The product with that matrix: row `r` is the sum of the block's rows up to `r`. -/
theorem product_apply (v : FVec Ideal S128x1024 .f32) (r : Fin 128) (j : Fin 1024) :
    (k0_pay5 (F := Ideal) v (ix2 r j) : EReal) = ∑ k : Fin 128, k0_pay3 (F := Ideal) (ix2 r k) * v (ix2 k j) := by
  pointwise [k0_pay5]

/-- Row `r` of block `n` is row `128 n + r` of the device's rows. -/
theorem xblk_apply (x : FVec Ideal S4096x1024 .f32) {n : ℕ} (hn : n < 32) (r : Fin 128) (j : Fin 1024) :
    (xblk (F := Ideal) x n (ix2 r j) : EReal) = row x j (128 * n + r.val) := by
  have hr := r.isLt
  rw [row_of_lt x j (by omega)]
  show x _ = x _
  refine congrArg x (funext fun a => Fin.ext ?_)
  match a with
  | ⟨0, _⟩ => show 128 * (n % 32) + 1 * r.val = 128 * n + r.val; omega
  | ⟨1, _⟩ => show 0 + 1 * j.val = j.val; omega

/-- Row `r` of the product for block `n` is the sum of the block's rows up to `r`. -/
theorem within_apply (x : FVec Ideal S4096x1024 .f32) {n : ℕ} (hn : n < 32) (r : Fin 128) (j : Fin 1024) :
    (within (F := Ideal) x n (ix2 r j) : EReal) = ∑ k ∈ Finset.range (r.val + 1), row x j (128 * n + k) := by
  unfold within
  rw [product_apply, ← sum_mask _ r.isLt]
  exact Finset.sum_congr rfl fun k _ => by rw [triangle_apply, xblk_apply x hn]

/-- The running total before block `n` is the sum of the rows before it. -/
theorem running_apply (x : FVec Ideal S4096x1024 .f32) (j : Fin 1024) {n : ℕ} (hn : n ≤ 32) :
    (running (F := Ideal) x n (ix2 0 j) : EReal) = pre x j (128 * n) := by
  induction n with
  | zero =>
    show k0_pay4 (F := Ideal) (ix2 0 j) = pre x j 0
    pointwise [k0_pay4]
    simp [pre]
  | succ n ih =>
    rw [Nat.mul_succ, pre_add, ← ih (by omega)]
    have hw := within_apply x (by omega : n < 32) 127 j
    refine Eq.trans (?_ : _ = (running (F := Ideal) x n (ix2 0 j) : EReal) + within (F := Ideal) x n (ix2 127 j)) (congrArg (fun z : EReal => (running (F := Ideal) x n (ix2 0 j) : EReal) + z) hw)
    rw [running]
    pointwise

/-- What the body stores for block `n` holds, in row `r`, the sum of the device's rows up to it. -/
theorem outBlk_apply (x : FVec Ideal S4096x1024 .f32) {n : ℕ} (hn : n < 32) (r : Fin 128) (j : Fin 1024) :
    (outBlk (F := Ideal) x n (ix2 r j) : EReal) = pre x j (128 * n + r.val + 1) := by
  rw [show 128 * n + r.val + 1 = 128 * n + (r.val + 1) by omega, pre_add, ← within_apply x hn, ← running_apply x j (by omega)]
  unfold outBlk
  pointwise
  exact add_comm _ _

/-- So the output buffer holds the prefix sums inside the device's rows. -/
theorem localOut_apply (x : FVec Ideal S4096x1024 .f32) (r : Fin 4096) (j : Fin 1024) :
    (localOut (F := Ideal) x (ix2 r j) : EReal) = pre x j (r.val + 1) := by
  have hr := r.isLt
  have h := outBlk_apply x (n := r.val / 128) (by omega) ⟨r.val % 128, Nat.mod_lt _ (by decide)⟩ j
  rw [show 128 * (r.val / 128) + r.val % 128 + 1 = r.val + 1 by omega] at h
  refine Eq.trans ?_ h
  refine congrArg (outBlk (F := Ideal) x (r.val / 128)) (funext fun a => Fin.ext ?_)
  match a with
  | ⟨0, _⟩ => rfl
  | ⟨1, _⟩ => rfl

/-- A device's total is the sum of its rows. -/
theorem total_apply (x : FVec Ideal S4096x1024 .f32) (j : Fin 1024) : (k0_pay2 (F := Ideal) x (ix2 0 j) : EReal) = pre x j 4096 := by
  rw [pre_all]
  pointwise [k0_pay2]

/-- Row `d` of the gathered totals is device `d`'s total. -/
theorem totBuf_apply (X : Dev nD → FVec Ideal S4096x1024 .f32) (d : Fin 16) (j : Fin 1024) :
    (totBuf (F := Ideal) X (ix2 d j) : EReal) = pre (X d) j 4096 := by
  refine Eq.trans ?_ (total_apply (X d) j)
  refine congrArg (k0_pay2 (F := Ideal) (X d)) (funext fun a => Fin.ext ?_)
  match a with
  | ⟨0, _⟩ => rfl
  | ⟨1, _⟩ => rfl

/-- The word that the body computes for a device's place is the device's number. -/
theorem place_eq (c : Dev nD) : Scalar.remsi (Scalar.divsi (Dev.word c) 1#32) 16#32 = BitVec.ofNat 32 c.val := by
  revert c; decide

/-- The masked sum of the totals is the sum over the devices before. -/
theorem offset_apply (c : Dev nD) (tot : FVec Ideal S16x1024 .f32) (r : Fin 4096) (j : Fin 1024) :
    (k0_pay101 (F := Ideal) (Scalar.remsi (Scalar.divsi (Dev.word c) 1#32) 16#32) tot (ix2 r j) : EReal)
      = ∑ d : Fin 16, if d.val < c.val then tot (ix2 d j) else 0 := by
  have hc : c.val < 16 := c.isLt
  rw [place_eq]
  pointwise [k0_pay101]
  refine Finset.sum_congr rfl fun d _ => ?_
  have hd := d.isLt
  have hb : IntOp.cmpi CmpIPredicate.slt (BitVec.ofNat 32 d.val) (BitVec.ofNat 32 c.val) = BitVec.ofBool (decide (d.val < c.val)) := by
    show BitVec.ofBool ((BitVec.ofNat 32 d.val).slt (BitVec.ofNat 32 c.val)) = _
    rw [BitVec.slt_eq_decide, word_toInt (by omega), word_toInt (by omega)]
    simp
  rw [hb]
  by_cases h : d.val < c.val
  · rw [if_pos h, decide_eq_true h]; rfl
  · rw [if_neg h, decide_eq_false h]; rfl

/-- THE KERNEL'S VALUE: where the devices hold the blocks of a whole array, row `r` of the result on device `c` is the sum
    of the whole array's rows up to row `4096 c + r`. -/
theorem outAt_apply (W : FVec Ideal ⟨2, ![65536, 1024]⟩ .f32) (X : Dev nD → FVec Ideal S4096x1024 .f32)
    (hX : ∀ (d : Dev nD) (k : ℕ) (j : Fin 1024), k < 4096 → row (X d) j k = row W j (4096 * d.val + k))
    (c : Dev nD) (r : Fin 4096) (j : Fin 1024) :
    (outAt (F := Ideal) X c (ix2 r j) : EReal) = pre W j (4096 * c.val + (r.val + 1)) := by
  have hr := r.isLt
  have hc : c.val ≤ 16 := c.isLt.le
  rw [pre_add, pre_mul]
  have h1 : (k0_pay100 (F := Ideal) (localOut (F := Ideal) (X c)) (ix2 r j) : EReal) = ∑ k ∈ Finset.range (r.val + 1), row W j (4096 * c.val + k) := by
    refine Eq.trans ?_ (Eq.trans (b := pre (X c) j (r.val + 1)) (localOut_apply (X c) r j) (Finset.sum_congr rfl fun k hk => hX c k j (by have := Finset.mem_range.1 hk; omega)))
    pointwise [k0_pay100]
  have h2 : (k0_pay101 (F := Ideal) (Scalar.remsi (Scalar.divsi (Dev.word c) 1#32) 16#32) (totBuf (F := Ideal) X) (ix2 r j) : EReal)
      = ∑ e ∈ Finset.range c.val, ∑ k ∈ Finset.range 4096, row W j (4096 * e + k) := by
    rw [offset_apply, ← sum_below (m := 16) _ hc]
    refine Finset.sum_congr rfl fun d _ => ?_
    rw [totBuf_apply]
    exact congrArg (fun z => if d.val < c.val then z else 0) (Finset.sum_congr rfl fun k hk => hX d k j (Finset.mem_range.1 hk))
  unfold outAt
  rw [← h1, ← h2]
  pointwise [k0_pay1]
  exact add_comm (_ : EReal) _

end Cert.KernelIdealRun

end
-- ==== Proof.Value.Equation.lean ====
/-
  The two sides meet: the reference's cumulative sum is the prefix sum of the whole array, the result array of device `c`
  ends at the prefix sums of rows `4096 c` to `4096 c + 4095`, and these are block `c` of the reference's result.
-/
module

public import proofs.«01_k».proof.Proof.Value.KernelValue
public import proofs.«01_k».proof.Proof.Gen.ReferenceIdeal.Run
public import proofs.«01_k».proof.Proof.Gen.KernelIdeal.Points
public import Idealize.ShloMosaic.Lib.Pipeline.Value

@[expose] public section

noncomputable section

namespace Cert.Equation

open Cert.Prefix
open Idealize.ShloMosaic
open Idealize.ShloMosaic.TcCoe
open scoped BigOperators

/-! ## The reference -/

section Reference
open Cert.ReferenceIdeal Cert.ReferenceIdeal.Gen

/-- What the reference computes of the whole array. -/
def refOut (W : FVec Ideal S65536x1024 .f32) : FVec Ideal S65536x1024 .f32 :=
  Host.reduceWindowAdd ![65536, 1] ![1, 1] ![65535, 0] ![0, 0] W (broadcastInDim S_ ![] bcast_S_S_ (constant S_ .f32 0x00000000#32))
    reduceWindows_S65536x1024_S65536x1024_w65536s1p65535_0_w1s1p0_0 h_S_

/-- Row `i` of it is the sum of the rows up to `i`. -/
theorem refOut_apply (W : FVec Ideal S65536x1024 .f32) (i : Fin 65536) (j : Fin 1024) :
    (refOut W (ix2 i j) : EReal) = pre W j (i.val + 1) := by
  unfold refOut
  exact cumsum_apply (by norm_num) W _ reduceWindows_S65536x1024_S65536x1024_w65536s1p65535_0_w1s1p0_0 h_S_ (by pointwise) i j

end Reference

/-! ## The kernel's arrays -/

section Kernel
open Cert.KernelIdeal Cert.KernelIdeal.Gen Cert.KernelIdealRun

variable {F : FTy → Type} [FloatOps F]
variable (m : (ℓ : Loc nD τ sig) → Buf (Elt F) ℓ) (ρ : Dev nD → PrngReg)

/-- A window's one block is its whole array: the argument's … -/
theorem index0 (a : Fin 2) : win0_0.index (0 : Fin 1) a = 0 := by revert a; decide
/-- … and the result's. -/
theorem index1 (t : Fin cfg0.N) (a : Fin 2) : win0_1.index t a = 0 := by rw [fin_N t]; revert a; decide

/-- The staged argument is the argument. -/
theorem xstg_eq (c : Dev nD) : xstg m ρ c = m ((c : Thread nD τ).loc main_arg0) := by
  funext i
  unfold xstg
  show m ((c : Thread nD τ).loc main_arg0) _ = m ((c : Thread nD τ).loc main_arg0) i
  refine congrArg (m ((c : Thread nD τ).loc main_arg0)) (funext fun a => Fin.ext ?_)
  exact Pipeline.Window.rect_emb_val_of_index_zero win0_0 (0 : Fin 1) a (index0 a) i

/-- The result array ends at what the body leaves in its staging buffer. -/
theorem finalA_out (c : Dev nD) : finalA m ρ c (1 : Fin 2) = outAt (xstg m ρ) c := by
  refine (dats m ρ 0 c).arrAt_eq_of_cover 1 (outAt (xstg m ρ) c) (fun t _ => ?_) (fun i => ⟨t₀, flush0_1 _, ?_⟩)
  · unfold Pipeline.Dat.flushed
    funext i
    show outAt (xstg m ρ) c _ = outAt (xstg m ρ) c _
    refine congrArg (outAt (xstg m ρ) c) (funext fun a => Fin.ext ?_)
    exact (Pipeline.Window.rect_emb_val_of_index_zero win0_1 t a (index1 t a) i).symm
  · have e : ((cfg0.win 1).blk t₀).view.emb i = i := funext fun a => Fin.ext (Pipeline.Window.rect_emb_val_of_index_zero win0_1 t₀ a (index1 t₀ a) i)
    exact e ▸ ((cfg0.win 1).blk t₀).view.emb_mem_set i

/-- Row `k` of block `c` is row `4096 c + k` of the whole array. -/
theorem row_block (h : Layout.Tiles S4096x1024 Cert.ReferenceIdeal.S65536x1024 0 16) (W : FVec Ideal Cert.ReferenceIdeal.S65536x1024 .f32) (c : Fin 16) (j : Fin 1024)
    {k : ℕ} (hk : k < 4096) :
    row (Layout.block S4096x1024 Cert.ReferenceIdeal.S65536x1024 0 16 c W h) j k = row W j (4096 * c.val + k) := by
  have hc := c.isLt
  rw [row_of_lt _ j hk, row_of_lt W j (by omega), Layout.block_apply]
  refine congrArg W (funext fun a => Fin.ext ?_)
  match a with
  | ⟨0, _⟩ => show c.val * 4096 + k = 4096 * c.val + k; omega
  | ⟨1, _⟩ => rfl

/-- THE EQUATION: where each device holds its block of the whole array `W`, its result is its block of the reference's. -/
theorem outAt_eq (h : Layout.Tiles S4096x1024 Cert.ReferenceIdeal.S65536x1024 0 16) (W : FVec Ideal Cert.ReferenceIdeal.S65536x1024 .f32)
    (X : Dev nD → FVec Ideal S4096x1024 .f32) (hX : ∀ d : Dev nD, X d = Layout.block S4096x1024 Cert.ReferenceIdeal.S65536x1024 0 16 d W h) (c : Dev nD) :
    outAt (F := Ideal) X c = Layout.block S4096x1024 Cert.ReferenceIdeal.S65536x1024 0 16 c (refOut W) h := by
  funext i
  obtain ⟨r, j, rfl⟩ : ∃ (r : Fin 4096) (j : Fin 1024), i = ix2 r j := ⟨i 0, i 1, ValueIdx.eq_ix2 i⟩
  have hr := r.isLt
  have hc : c.val < 16 := c.isLt
  rw [Layout.block_apply]
  refine Eq.trans (outAt_apply W X (fun d k j hk => by rw [hX d]; exact row_block h W d j hk) c r j) ?_
  refine (refOut_apply W ⟨4096 * c.val + r.val, by omega⟩ j).symm.trans ?_
  refine congrArg (refOut W) (funext fun a => Fin.ext ?_)
  match a with
  | ⟨0, _⟩ => show 4096 * c.val + r.val = c.val * 4096 + r.val; omega
  | ⟨1, _⟩ => rfl

/-- So the kernel's result array on each device ends at its block of the reference's result. -/
theorem finalA_eq (m : (ℓ : Loc nD τ sig) → Buf (Elt Ideal) ℓ) (ρ : Dev nD → PrngReg)
    (h : Layout.Tiles S4096x1024 Cert.ReferenceIdeal.S65536x1024 0 16) (W : FVec Ideal Cert.ReferenceIdeal.S65536x1024 .f32)
    (hm : ∀ d : Dev nD, m ((d : Thread nD τ).loc main_arg0) = Layout.block S4096x1024 Cert.ReferenceIdeal.S65536x1024 0 16 d W h) (c : Dev nD) :
    finalA m ρ c (1 : Fin 2) = Layout.block S4096x1024 Cert.ReferenceIdeal.S65536x1024 0 16 c (refOut W) h :=
  (finalA_out m ρ c).trans (outAt_eq h W (xstg m ρ) (fun d => (xstg_eq m ρ d).trans (hm d)) c)

end Kernel

end Cert.Equation

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun.Launch
public import proofs.«01_k».proof.Proof.KernelIdealRun.Launch
public import proofs.«01_k».proof.Proof.Value.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel at machine floats terminates, keeps its argument and ends with every semaphore counter at zero. -/
theorem frame_Kernel : Cert.quiescent_Kernel := by
  intro m ρ _
  exact (θ_run Cert.Kernel.defs _ _).mono (fun _ h => ⟨fun c => (h.1 c (0 : Fin 2)).trans (Cert.KernelRun.finalA_x m ρ c), h.2⟩)
    (Cert.KernelRun.run_main (F := Bits) m ρ)

/-- So does its idealization at exact values. -/
theorem frame_KernelIdeal : Cert.quiescent_KernelIdeal := by
  intro m ρ _
  exact (θ_run Cert.KernelIdeal.defs _ _).mono (fun _ h => ⟨fun c => (h.1 c (0 : Fin 2)).trans (Cert.KernelIdealRun.finalA_x m ρ c), h.2⟩)
    (Cert.KernelIdealRun.run_main (F := Ideal) m ρ)

/-- So does the reference, which has no semaphore at all. -/
theorem frame_ReferenceIdeal : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- Over the extended reals each device's result is its block of the cumulative sum of the whole array. -/
theorem algebraic_claim : Cert.algebraic_KernelIdeal_ReferenceIdeal := by
  intro m g m' g' _ hag
  refine ⟨Cert.Equation.refOut (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h.1 c (1 : Fin 2)).trans (Cert.Equation.finalA_eq m g _ _ hag c), (h.1 c (0 : Fin 2)).trans (Cert.KernelIdealRun.finalA_x m g c)⟩)
      (Cert.KernelIdealRun.run_main (F := Ideal) m g)
  · exact (θ_run Cert.ReferenceIdeal.defs _ _).mono (fun _ h => ⟨by unfold Cert.Equation.refOut; exact (h 0).1, (h 0).2⟩)
      (Cert.ReferenceIdeal.Value.run (F := Ideal) m' g')

theorem claim : Cert.Claim := ⟨Cert.Kernel.Gen.facts, Cert.KernelIdeal.Gen.facts, Cert.ReferenceIdeal.Gen.facts,
  frame_Kernel, frame_KernelIdeal, frame_ReferenceIdeal, trivial, algebraic_claim⟩

end Cert.Proof

end
